-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![64, 128, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 512]⟩ ⟨2, ![512, 16384]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 512]⟩ ⟨2, ![512, 16384]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 512]⟩ ⟨2, ![512, 16384]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 512]⟩ ⟨2, ![16384, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![64, 128, 512]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x512 : Shape := ⟨2, ![512, 512]⟩
abbrev S_ : Shape := ⟨0, ![]⟩

class Facts : Prop where
  bcast_S_S2x128x512 : S_.BroadcastsInDim S2x128x512 (![] : Fin 0 → Fin S2x128x512.rank)
  bcast_S_S512x512 : S_.BroadcastsInDim S512x512 (![] : Fin 0 → Fin S512x512.rank)

variable [Facts]

def fn {F : FTy → Type} [FloatOps F] (main_arg0 : FVec F S2x128x512 .bf16) (main_arg1 : FVec F S512x512 .bf16) (main_arg2 : FVec F S512x512 .bf16) (main_arg3 : FVec F S512x512 .bf16) (main_arg4 : FVec F S512x512 .bf16) : IVec S2x128x512 1 × IVec S512x512 1 × IVec S512x512 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x512 .bf16 := Host.absf main_arg1
  let main_cst_0 : FVec F S_ .bf16 := constant S_ .bf16 0x7F80#16
  let main_v4 : FVec F S512x512 .bf16 := broadcastInDim S512x512 ![] bcast_S_S512x512 main_cst_0
  let main_v5 : IVec S512x512 1 := cmpf .olt main_v3 main_v4
  let main_v6 : FVec F S512x512 .bf16 := Host.absf main_arg2
  let main_cst_1 : FVec F S_ .bf16 := constant S_ .bf16 0x7F80#16
  let main_v7 : FVec F S512x512 .bf16 := broadcastInDim S512x512 ![] bcast_S_S512x512 main_cst_1
  let main_v8 : IVec S512x512 1 := cmpf .olt main_v6 main_v7
  (main_v2, main_v5, main_v8)
-- ==== Pre_finite_ReferenceIdeal.lean ====
abbrev S64x128x512 : Shape := ⟨3, ![64, 128, 512]⟩
abbrev S512x16384 : Shape := ⟨2, ![512, 16384]⟩
abbrev S16384x512 : Shape := ⟨2, ![16384, 512]⟩
abbrev S_ : Shape := ⟨0, ![]⟩

class Facts : Prop where
  bcast_S_S64x128x512 : S_.BroadcastsInDim S64x128x512 (![] : Fin 0 → Fin S64x128x512.rank)
  bcast_S_S512x16384 : S_.BroadcastsInDim S512x16384 (![] : Fin 0 → Fin S512x16384.rank)

variable [Facts]

def fn {F : FTy → Type} [FloatOps F] (main_arg0 : FVec F S64x128x512 .bf16) (main_arg1 : FVec F S512x16384 .bf16) (main_arg2 : FVec F S512x16384 .bf16) (main_arg3 : FVec F S512x16384 .bf16) (main_arg4 : FVec F S16384x512 .bf16) : IVec S64x128x512 1 × IVec S512x16384 1 × IVec S512x16384 1 :=
  let main_v0 : FVec F S64x128x512 .bf16 := Host.absf main_arg0
  let main_cst : FVec F S_ .bf16 := constant S_ .bf16 0x7F80#16
  let main_v1 : FVec F S64x128x512 .bf16 := broadcastInDim S64x128x512 ![] bcast_S_S64x128x512 main_cst
  let main_v2 : IVec S64x128x512 1 := cmpf .olt main_v0 main_v1
  let main_v3 : FVec F S512x16384 .bf16 := Host.absf main_arg1
  let main_cst_0 : FVec F S_ .bf16 := constant S_ .bf16 0x7F80#16
  let main_v4 : FVec F S512x16384 .bf16 := broadcastInDim S512x16384 ![] bcast_S_S512x16384 main_cst_0
  let main_v5 : IVec S512x16384 1 := cmpf .olt main_v3 main_v4
  let main_v6 : FVec F S512x16384 .bf16 := Host.absf main_arg2
  let main_cst_1 : FVec F S_ .bf16 := constant S_ .bf16 0x7F80#16
  let main_v7 : FVec F S512x16384 .bf16 := broadcastInDim S512x16384 ![] bcast_S_S512x16384 main_cst_1
  let main_v8 : IVec S512x16384 1 := cmpf .olt main_v6 main_v7
  (main_v2, main_v5, main_v8)
-- ==== Kernel.lean ====
abbrev S2x128x512 : Shape := ⟨3, ![2, 128, 512]⟩
abbrev S512x512 : Shape := ⟨2, ![512, 512]⟩
abbrev S128x512 : Shape := ⟨2, ![128, 512]⟩
abbrev S2 : Shape := ⟨1, ![2]⟩
abbrev S_ : Shape := ⟨0, ![]⟩
abbrev S1x128x512 : Shape := ⟨3, ![1, 128, 512]⟩
abbrev S1 : Shape := ⟨1, ![1]⟩
abbrev S128x64 : Shape := ⟨2, ![128, 64]⟩
abbrev S128x128 : Shape := ⟨2, ![128, 128]⟩
abbrev S128 : Shape := ⟨1, ![128]⟩
abbrev S128x1 : Shape := ⟨2, ![128, 1]⟩

abbrev nBuf : Space → Nat
  | .hbm => 6
  | .vmem => 11
  | .smem => 0
  | _ => 0

abbrev bufTy : (tb : Table) → Fin (tcTables nBuf tb) → BufTy
  | .hbm, ⟨0, _⟩ => ⟨S2x128x512, .bf16⟩
  | .hbm, ⟨1, _⟩ => ⟨S512x512, .bf16⟩
  | .hbm, ⟨2, _⟩ => ⟨S512x512, .bf16⟩
  | .hbm, ⟨3, _⟩ => ⟨S512x512, .bf16⟩
  | .hbm, ⟨4, _⟩ => ⟨S512x512, .bf16⟩
  | .hbm, ⟨5, _⟩ => ⟨S2x128x512, .f32⟩
  | .local _ .vmem, ⟨0, _⟩ => ⟨S2x128x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S2x128x512, .f32⟩
  | .local _ .vmem, ⟨6, _⟩ => ⟨S2x128x512, .bf16⟩
  | .local _ .vmem, ⟨7, _⟩ => ⟨S2x128x512, .bf16⟩
  | .local _ .vmem, ⟨8, _⟩ => ⟨S2x128x512, .bf16⟩
  | .local _ .vmem, ⟨9, _⟩ => ⟨S2x128x512, .bf16⟩
  | .local _ .vmem, ⟨10, _⟩ => ⟨S128x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 5 22 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 4

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_24 : BitVec 32 := 1#32
  let v23 : BitVec 32 := Scalar.muli v7 c1_i32_24
  let v24 : BitVec 32 := Scalar.addi c0_i32_25 v23
  v24.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_34 : BitVec 32 := 1#32
  let v33 : BitVec 32 := Scalar.muli v5 c1_i32_34
  let v34 : BitVec 32 := Scalar.addi c0_i32_35 v33
  v34.toNat
def k0_dev5 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_104 : BitVec 32 := 1#32
  let v225 : BitVec 32 := Scalar.muli v7 c1_i32_104
  let v226 : BitVec 32 := Scalar.addi c0_i32_105 v225
  v226.toNat
def k0_dev6 (d0 : Dev nD) : Nat :=
  let c0_i32_183 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_182 : BitVec 32 := 1#32
  let v417 : BitVec 32 := Scalar.muli v5 c1_i32_182
  let v418 : BitVec 32 := Scalar.addi c0_i32_183 v417
  v418.toNat
@[reducible] def k0_t1_loop : Scf.Loop 32 :=
  let c0_i32_188 : BitVec 32 := 0#32
  let c15_i32 : BitVec 32 := 15#32
  let v427 : BitVec 32 := Scalar.addi c0_i32_188 c15_i32
  let c1_i32_189 : BitVec 32 := 1#32
  ⟨c0_i32_188, v427, c1_i32_189⟩
def k0_dev7 (d0 : Dev nD) : Nat :=
  let c0_i32_587 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_586 : BitVec 32 := 1#32
  let v986 : BitVec 32 := Scalar.muli v5 c1_i32_586
  let v987 : BitVec 32 := Scalar.addi c0_i32_587 v986
  v987.toNat
def k0_dev8 (d0 : Dev nD) : Nat :=
  let c0_i32_599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_598 : BitVec 32 := 1#32
  let v994 : BitVec 32 := Scalar.muli v7 c1_i32_598
  let v995 : BitVec 32 := Scalar.addi c0_i32_599 v994
  v995.toNat
def k0_dev9 (d0 : Dev nD) : Nat :=
  let c0_i32_611 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_610 : BitVec 32 := 1#32
  let v1002 : BitVec 32 := Scalar.muli v5 c1_i32_610
  let v1003 : BitVec 32 := Scalar.addi c0_i32_611 v1002
  v1003.toNat
def k0_dev10 (d0 : Dev nD) : Nat :=
  let c0_i32_623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_622 : BitVec 32 := 1#32
  let v1010 : BitVec 32 := Scalar.muli v7 c1_i32_622
  let v1011 : BitVec 32 := Scalar.addi c0_i32_623 v1010
  v1011.toNat
def k0_dev11 (d0 : Dev nD) : Nat :=
  let c0_i32_651 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_650 : BitVec 32 := 1#32
  let v1028 : BitVec 32 := Scalar.muli v7 c1_i32_650
  let v1029 : BitVec 32 := Scalar.addi c0_i32_651 v1028
  v1029.toNat
def k0_dev12 (d0 : Dev nD) : Nat :=
  let c0_i32_663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_662 : BitVec 32 := 1#32
  let v1038 : BitVec 32 := Scalar.muli v5 c1_i32_662
  let v1039 : BitVec 32 := Scalar.addi c0_i32_663 v1038
  v1039.toNat
def k0_dev13 (d0 : Dev nD) : Nat :=
  let c0_i32_756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_755 : BitVec 32 := 1#32
  let v1242 : BitVec 32 := Scalar.muli v7 c1_i32_755
  let v1243 : BitVec 32 := Scalar.addi c0_i32_756 v1242
  v1243.toNat
def k0_dev14 (d0 : Dev nD) : Nat :=
  let c0_i32_849 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_848 : BitVec 32 := 1#32
  let v1446 : BitVec 32 := Scalar.muli v5 c1_i32_848
  let v1447 : BitVec 32 := Scalar.addi c0_i32_849 v1446
  v1447.toNat
def k0_dev15 (d0 : Dev nD) : Nat :=
  let c0_i32_865 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_864 : BitVec 32 := 1#32
  let v1462 : BitVec 32 := Scalar.muli v5 c1_i32_864
  let v1463 : BitVec 32 := Scalar.addi c0_i32_865 v1462
  v1463.toNat
def k0_dev16 (d0 : Dev nD) : Nat :=
  let c0_i32_877 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_876 : BitVec 32 := 1#32
  let v1470 : BitVec 32 := Scalar.muli v7 c1_i32_876
  let v1471 : BitVec 32 := Scalar.addi c0_i32_877 v1470
  v1471.toNat
def k0_dev17 (d0 : Dev nD) : Nat :=
  let c0_i32_889 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_888 : BitVec 32 := 1#32
  let v1478 : BitVec 32 := Scalar.muli v5 c1_i32_888
  let v1479 : BitVec 32 := Scalar.addi c0_i32_889 v1478
  v1479.toNat
def k0_dev18 (d0 : Dev nD) : Nat :=
  let c0_i32_901 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_900 : BitVec 32 := 1#32
  let v1486 : BitVec 32 := Scalar.muli v7 c1_i32_900
  let v1487 : BitVec 32 := Scalar.addi c0_i32_901 v1486
  v1487.toNat
def k0_dev19 (d0 : Dev nD) : Nat :=
  let c0_i32_929 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_928 : BitVec 32 := 1#32
  let v1504 : BitVec 32 := Scalar.muli v7 c1_i32_928
  let v1505 : BitVec 32 := Scalar.addi c0_i32_929 v1504
  v1505.toNat
def k0_dev20 (d0 : Dev nD) : Nat :=
  let c0_i32_941 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_940 : BitVec 32 := 1#32
  let v1514 : BitVec 32 := Scalar.muli v5 c1_i32_940
  let v1515 : BitVec 32 := Scalar.addi c0_i32_941 v1514
  v1515.toNat
def k0_dev21 (d0 : Dev nD) : Nat :=
  let c0_i32_1034 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_1033 : BitVec 32 := 1#32
  let v1718 : BitVec 32 := Scalar.muli v7 c1_i32_1033
  let v1719 : BitVec 32 := Scalar.addi c0_i32_1034 v1718
  v1719.toNat
def k0_dev22 (d0 : Dev nD) : Nat :=
  let c0_i32_1127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_1126 : BitVec 32 := 1#32
  let v1922 : BitVec 32 := Scalar.muli v5 c1_i32_1126
  let v1923 : BitVec 32 := Scalar.addi c0_i32_1127 v1922
  v1923.toNat
def k0_dev23 (d0 : Dev nD) : Nat :=
  let c0_i32_201 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_200 : BitVec 32 := 1#32
  let v434 : BitVec 32 := Scalar.muli v5 c1_i32_200
  let v435 : BitVec 32 := Scalar.addi c0_i32_201 v434
  v435.toNat
def k0_dev24 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_212 : BitVec 32 := 1#32
  let v442 : BitVec 32 := Scalar.muli v7 c1_i32_212
  let v443 : BitVec 32 := Scalar.addi c0_i32_213 v442
  v443.toNat
def k0_dev25 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_224 : BitVec 32 := 1#32
  let v450 : BitVec 32 := Scalar.muli v5 c1_i32_224
  let v451 : BitVec 32 := Scalar.addi c0_i32_225 v450
  v451.toNat
def k0_dev26 (d0 : Dev nD) : Nat :=
  let c0_i32_237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_236 : BitVec 32 := 1#32
  let v458 : BitVec 32 := Scalar.muli v7 c1_i32_236
  let v459 : BitVec 32 := Scalar.addi c0_i32_237 v458
  v459.toNat
def k0_dev27 (d0 : Dev nD) : Nat :=
  let c0_i32_265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_264 : BitVec 32 := 1#32
  let v476 : BitVec 32 := Scalar.muli v7 c1_i32_264
  let v477 : BitVec 32 := Scalar.addi c0_i32_265 v476
  v477.toNat
def k0_dev28 (d0 : Dev nD) : Nat :=
  let c0_i32_277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_276 : BitVec 32 := 1#32
  let v486 : BitVec 32 := Scalar.muli v5 c1_i32_276
  let v487 : BitVec 32 := Scalar.addi c0_i32_277 v486
  v487.toNat
def k0_dev29 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_369 : BitVec 32 := 1#32
  let v690 : BitVec 32 := Scalar.muli v7 c1_i32_369
  let v691 : BitVec 32 := Scalar.addi c0_i32_370 v690
  v691.toNat
def k0_dev30 (d0 : Dev nD) : Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_462 : BitVec 32 := 1#32
  let v894 : BitVec 32 := Scalar.muli v5 c1_i32_462
  let v895 : BitVec 32 := Scalar.addi c0_i32_463 v894
  v895.toNat
def k0_dev31 (d0 : Dev nD) : Nat :=
  let c0_i32_479 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_478 : BitVec 32 := 1#32
  let v910 : BitVec 32 := Scalar.muli v5 c1_i32_478
  let v911 : BitVec 32 := Scalar.addi c0_i32_479 v910
  v911.toNat
def k0_dev32 (d0 : Dev nD) : Nat :=
  let c0_i32_491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_490 : BitVec 32 := 1#32
  let v918 : BitVec 32 := Scalar.muli v7 c1_i32_490
  let v919 : BitVec 32 := Scalar.addi c0_i32_491 v918
  v919.toNat
def k0_dev33 (d0 : Dev nD) : Nat :=
  let c0_i32_503 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_0 : BitVec 32 := 32#32
  let v3 : BitVec 32 := Scalar.addi v2 c32_i32_0
  let c1_i32_1 : BitVec 32 := 1#32
  let v4 : BitVec 32 := Scalar.subi v3 c1_i32_1
  let c32_i32_2 : BitVec 32 := 32#32
  let v5 : BitVec 32 := Scalar.remsi v4 c32_i32_2
  let c1_i32_502 : BitVec 32 := 1#32
  let v926 : BitVec 32 := Scalar.muli v5 c1_i32_502
  let v927 : BitVec 32 := Scalar.addi c0_i32_503 v926
  v927.toNat
def k0_dev34 (d0 : Dev nD) : Nat :=
  let c0_i32_515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_3 : BitVec 32 := 1#32
  let v6 : BitVec 32 := Scalar.addi v2 c1_i32_3
  let c32_i32_4 : BitVec 32 := 32#32
  let v7 : BitVec 32 := Scalar.remsi v6 c32_i32_4
  let c1_i32_514 : BitVec 32 := 1#32
  let v934 : BitVec 32 := Scalar.muli v7 c1_i32_514
  let v935 : BitVec 32 := Scalar.addi c0_i32_515 v934
  v935.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S64x128x512 : Shape := ⟨3, ![64, 128, 512]⟩
abbrev S512x16384 : Shape := ⟨2, ![512, 16384]⟩
abbrev S16384x512 : Shape := ⟨2, ![16384, 512]⟩
abbrev S64x128x16384 : Shape := ⟨3, ![64, 128, 16384]⟩
abbrev S64x128x256x64 : Shape := ⟨4, ![64, 128, 256, 64]⟩
abbrev S_ : Shape := ⟨0, ![]⟩
abbrev S64x256x128x1 : Shape := ⟨4, ![64, 256, 128, 1]⟩
abbrev S64x256x128x128 : Shape := ⟨4, ![64, 256, 128, 128]⟩
abbrev S64x256x128 : Shape := ⟨3, ![64, 256, 128]⟩
abbrev S64x128x256x1 : Shape := ⟨4, ![64, 128, 256, 1]⟩
abbrev S64x256x64x128 : Shape := ⟨4, ![64, 256, 64, 128]⟩

abbrev nBuf : Space → Nat
  | .hbm => 51
  | .vmem => 0
  | .smem => 0
  | _ => 0

abbrev bufTy : (tb : Table) → Fin (tcTables nBuf tb) → BufTy
  | .hbm, ⟨0, _⟩ => ⟨S64x128x512, .bf16⟩
  | .hbm, ⟨1, _⟩ => ⟨S512x16384, .bf16⟩
  | .hbm, ⟨2, _⟩ => ⟨S512x16384, .bf16⟩
  | .hbm, ⟨3, _⟩ => ⟨S512x16384, .bf16⟩
  | .hbm, ⟨4, _⟩ => ⟨S16384x512, .bf16⟩
  | .hbm, ⟨5, _⟩ => ⟨S64x128x512, .f32⟩
  | .hbm, ⟨6, _⟩ => ⟨S512x16384, .f32⟩
  | .hbm, ⟨7, _⟩ => ⟨S512x16384, .f32⟩
  | .hbm, ⟨8, _⟩ => ⟨S512x16384, .f32⟩
  | .hbm, ⟨9, _⟩ => ⟨S16384x512, .f32⟩
  | .hbm, ⟨10, _⟩ => ⟨S64x128x16384, .f32⟩
  | .hbm, ⟨11, _⟩ => ⟨S64x128x256x64, .f32⟩
  | .hbm, ⟨12, _⟩ => ⟨S64x128x16384, .f32⟩
  | .hbm, ⟨13, _⟩ => ⟨S64x128x256x64, .f32⟩
  | .hbm, ⟨14, _⟩ => ⟨S64x128x16384, .f32⟩
  | .hbm, ⟨15, _⟩ => ⟨S64x128x256x64, .f32⟩
  | .hbm, ⟨16, _⟩ => ⟨S_, .f32⟩
  | .hbm, ⟨17, _⟩ => ⟨S64x128x256x64, .f32⟩
  | .hbm, ⟨18, _⟩ => ⟨S_, .f32⟩
  | .hbm, ⟨19, _⟩ => ⟨S64x256x128x1, .f32⟩
  | .hbm, ⟨20, _⟩ => ⟨S_, .f32⟩
  | .hbm, ⟨21, _⟩ => ⟨S64x256x128x1, .f32⟩
  | .hbm, ⟨22, _⟩ => ⟨S64x256x128x128, .f32⟩
  | .hbm, ⟨23, _⟩ => ⟨S_, .f32⟩
  | .hbm, ⟨24, _⟩ => ⟨S64x256x128x128, .f32⟩
  | .hbm, ⟨25, _⟩ => ⟨S64x256x128x128, .f32⟩
  | .hbm, ⟨26, _⟩ => ⟨S_, .f32⟩
  | .hbm, ⟨27, _⟩ => ⟨S64x256x128, .f32⟩
  | .hbm, ⟨28, _⟩ => ⟨S64x256x128x1, .f32⟩
  | .hbm, ⟨29, _⟩ => ⟨S64x256x128x1, .f32⟩
  | .hbm, ⟨30, _⟩ => ⟨S64x256x128x1, .f32⟩
  | .hbm, ⟨31, _⟩ => ⟨S64x256x128x1, .f32⟩
  | .hbm, ⟨32, _⟩ => ⟨S64x256x128x128, .f32⟩
  | .hbm, ⟨33, _⟩ => ⟨S64x256x128x128, .f32⟩
  | .hbm, ⟨34, _⟩ => ⟨S64x256x128x128, .f32⟩
  | .hbm, ⟨35, _⟩ => ⟨S64x256x128x1, .f32⟩
  | .hbm, ⟨36, _⟩ => ⟨S_, .f32⟩
  | .hbm, ⟨37, _⟩ => ⟨S64x256x128, .f32⟩
  | .hbm, ⟨38, _⟩ => ⟨S64x256x128x1, .f32⟩
  | .hbm, ⟨39, _⟩ => ⟨S64x256x128x1, .f32⟩
  | .hbm, ⟨40, _⟩ => ⟨S64x128x256x1, .f32⟩
  | .hbm, ⟨41, _⟩ => ⟨S64x128x256x64, .f32⟩
  | .hbm, ⟨42, _⟩ => ⟨S64x128x256x64, .f32⟩
  | .hbm, ⟨43, _⟩ => ⟨S64x256x64x128, .f32⟩
  | .hbm, ⟨44, _⟩ => ⟨S64x128x256x64, .f32⟩
  | .hbm, ⟨45, _⟩ => ⟨S64x128x256x64, .f32⟩
  | .hbm, ⟨46, _⟩ => ⟨S64x128x256x1, .f32⟩
  | .hbm, ⟨47, _⟩ => ⟨S64x128x256x64, .f32⟩
  | .hbm, ⟨48, _⟩ => ⟨S64x128x256x64, .f32⟩
  | .hbm, ⟨49, _⟩ => ⟨S64x128x16384, .f32⟩
  | .hbm, ⟨50, _⟩ => ⟨S64x128x512, .f32⟩
  | _, _ => ⟨S64x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Proof.Prog.lean ====
/- The kernel's program said once per STEP of the ring protocol. The four channels (the rows of `x` and
   the partial sums, each in the two directions of the ring) run the same steps on their own buffers and
   semaphores, and the two halves of a loop trip run them on swapped slots; so a step is a program over
   the channel and the slot, a hop is the steps in order, and the printed body is the hops in order. -/
module

public import proofs.«01_k».proof.Proof.Gen.KernelIdeal.Skeleton
public import proofs.«01_k».proof.Proof.Gen.KernelIdeal.Points

@[expose] public section

set_option synthInstance.maxSize 4096

noncomputable section

namespace Cert.Proof

open Cert.KernelIdeal Cert.KernelIdeal.Gen
open Idealize.ShloMosaic Idealize.SL.Sem

variable {F : FTy → Type} [FloatOps F]

/-- The four channels: rows of `x` and partial sums, to the right and to the left. -/
inductive Kind | xR | aR | xL | aL
  deriving DecidableEq

instance : Fintype Kind := ⟨{.xR, .aR, .xL, .aL}, fun κ => by cases κ <;> decide⟩

/-- The channel's buffer of two slots. -/
def buf : Kind → Memref sig .tc .vmem S2x128x512 .bf16
  | .xR => Memref.whole cc0_scratch0
  | .aR => Memref.whole cc0_scratch1
  | .xL => Memref.whole cc0_scratch2
  | .aL => Memref.whole cc0_scratch3

theorem buf_whole : ∀ κ, (buf κ).IsWhole
  | .xR => Memref.isWhole_whole _
  | .aR => Memref.isWhole_whole _
  | .xL => Memref.isWhole_whole _
  | .aL => Memref.isWhole_whole _

/-- The channel's two send semaphores. -/
def sndArr : Kind → DmaSems sig S2
  | .xR => cc0_scratch5
  | .aR => cc0_scratch7
  | .xL => cc0_scratch9
  | .aL => cc0_scratch11

/-- The channel's two receive semaphores. -/
def rcvArr : Kind → DmaSems sig S2
  | .xR => cc0_scratch6
  | .aR => cc0_scratch8
  | .xL => cc0_scratch10
  | .aL => cc0_scratch12

/-- The channel's credit semaphore. -/
def crdArr : Kind → Sems sig S_
  | .xR => cc0_scratch13
  | .aR => cc0_scratch14
  | .xL => cc0_scratch15
  | .aL => cc0_scratch16

theorem slot_inb : ∀ (s : Fin 2) a, (![s.val, 0, 0] : Fin 3 → ℕ) a + S1x128x512.size a ≤ S2x128x512.size a
  | 0 => inb_S2x128x512_S1x128x512_0_0_0
  | 1 => inb_S2x128x512_S1x128x512_1_0_0

theorem sem_inb : ∀ (s : Fin 2) a, (![s.val] : Fin 1 → ℕ) a + S1.size a ≤ S2.size a
  | 0 => inb_S2_S1_0
  | 1 => inb_S2_S1_1

/-- The rectangle of one slot. -/
def slotRect (s : Fin 2) : Rect S2x128x512 :=
  Rect.unit (s := S2x128x512) ![s.val, 0, 0] S1x128x512.size (slot_inb s)

theorem slot_packed : ∀ s : Fin 2, (slotRect s).PackedRows (EltTy.packing .bf16)
  | 0 => packedbf16_S2x128x512_S1x128x512_0_0_0
  | 1 => packedbf16_S2x128x512_S1x128x512_1_0_0

theorem slot_words : ∀ s : Fin 2, (slotRect s).WholeWords (EltTy.packing .bf16)
  | 0 => wordsbf16_S2x128x512_S1x128x512_0_0_0
  | 1 => wordsbf16_S2x128x512_S1x128x512_1_0_0

/-- The view of one slot of the channel's buffer that a transfer reads or writes. -/
def slotV (κ : Kind) (s : Fin 2) : Memref sig .tc .vmem S128x512 .bf16 :=
  ((buf κ).slice (slotRect s) (fun _ => rfl)).squeeze S128x512 squeezes_S1x128x512_S128x512

theorem slotV_words (κ : Kind) (s : Fin 2) : (slotV κ s).view.WordExact :=
  ((buf_whole κ).wordExact_slice rfl _ (slot_words s)).reshape _ _

/-- One semaphore of an array of two. -/
def semAt (a : DmaSems sig S2) (s : Fin 2) : DmaSem sig :=
  ((a.slice (Rect.unit (s := S2) ![s.val] S1.size (sem_inb s))).squeeze S_ squeezes_S1_S_).sem

/-- The programs of this kernel. -/
abbrev TProg (F : FTy → Type) : Type → Type _ := Prog (TpuEff nD τ sig (Elt F) Λ₀ .tc)

/-! ## The steps of the protocol -/

/-- Start the channel's transfer of slot `s` to slot `1 - s` of the device `n`. -/
def sendP (κ : Kind) (s : Fin 2) (n : Dev nD) : TProg F Unit :=
  Prog.lift (.enqueueDma (slotV κ s) (.remote (Dev.tc n) (slotV κ (1 - s)) (.dma (semAt (sndArr κ) s)))
    (.dma (semAt (rcvArr κ) (1 - s))) (slotV_words κ s) (slotV_words κ (1 - s)) ⟨⟨rfl, Or.inl rfl⟩, trivial⟩)

/-- Wait until slot `s` has left, then tell the device `n` that it may be written. -/
def doneP (κ : Kind) (s : Fin 2) (n : Dev nD) : TProg F Unit := do
  Prog.lift (.waitDma2 (semAt (sndArr κ) s) (slotV κ s) (slotV κ s) (slotV_words κ s) (slotV_words κ s))
  semSignalWord n (crdArr κ).sem 1#32

/-- Wait until slot `s` has arrived. -/
def recvP (κ : Kind) (s : Fin 2) : TProg F Unit :=
  Prog.lift (.waitDma2 (semAt (rcvArr κ) s) (slotV κ s) (slotV κ s) (slotV_words κ s) (slotV_words κ s))

/-- Wait until the next slot may be written. -/
def crdP (κ : Kind) : TProg F Unit := semWaitWord (crdArr κ).sem 1#32

/-- Read a slot. -/
def loadP (κ : Kind) (s : Fin 2) : TProg F (Vec F S1x128x512 .bf16) :=
  Prog.lift (.load (buf κ) (slotRect s).toLoadRect (View.loadsAt_vmem h_S1x128x512))

/-- Write a slot. -/
def storeP (κ : Kind) (s : Fin 2) (v : Vec F S1x128x512 .bf16) : TProg F Unit :=
  Prog.lift (.store (buf κ) (slotRect s) v Finset.univ
    (View.stores_vmem h_S1x128x512 ((buf_whole κ).storeExact_slice rfl _ (slot_packed s)) (fun _ => rfl)) (.inl rfl))

/-! ## One device's attention on one block of rows -/

theorem head_inb : ∀ (h : Fin 8) a, (![0, 64 * h.val] : Fin 2 → ℕ) a + S128x64.size a ≤ S128x512.size a := by
  decide

theorem head_slices : ∀ h : Fin 8, S128x512.Slices ![0, 64 * h.val] S128x64 := by decide

/-- The columns of one head. -/
def headRect (h : Fin 8) : Rect S128x512 := Rect.unit (s := S128x512) ![0, 64 * h.val] S128x64.size (head_inb h)

theorem head_packed : ∀ h : Fin 8, (headRect h).PackedRows (EltTy.packing .bf16) := by decide

/-- A projection of the rows. -/
def projV (x : Vec F S1x128x512 .bf16) (w : Vec F S512x512 .bf16) : FVec F S128x512 .bf16 :=
  truncf .bf16 (matmul dot_S128x512_S512x512_S128x512_1_0_0_1_n_n none
    (shapeCast S128x512 x shapeCasts_S1x128x512_S128x512) (shapeCast S512x512 w shapeCasts_S512x512_S512x512)
    (constant S128x512 .f32 0x00000000#32)) bitsLt_bf16_f32

/-- The exponentials of one head's scores. -/
def expV (h : Fin 8) (q k : FVec F S128x512 .bf16) : FVec F S128x128 .bf16 :=
  exp (truncf .bf16 (mulf (matmul dot_S128x64_S128x64_S128x128_1_1_0_0_n_n none
    (extractStridedSlice S128x64 ![0, 64 * h.val] q (head_slices h))
    (extractStridedSlice S128x64 ![0, 64 * h.val] k (head_slices h))
    (constant S128x128 .f32 0x00000000#32)) (broadcast S128x128 (Scalar.ofBits .f32 0x3E000000#32))) bitsLt_bf16_f32)

/-- One head's output: the exponentials against the values, over the row sums. -/
def headV (h : Fin 8) (q k v : FVec F S128x512 .bf16) : FVec F S128x64 .bf16 :=
  shapeCast S128x64 (truncf .bf16 (divf
    (matmul dot_S128x128_S128x64_S128x64_1_0_0_1_n_n none (expV h q k)
      (extractStridedSlice S128x64 ![0, 64 * h.val] v (head_slices h)) (constant S128x64 .f32 0x00000000#32))
    (broadcastTo S128x64 (extf .f32 (truncf .bf16 (shapeCast S128x1
      (multiReduction .add [1] S128 (extf .f32 (expV h q k) bitsLt_bf16_f32) 0x00000000#32 reduces_S128x128_S128 (.inl rfl) rfl)
      shapeCasts_S128_S128x1) bitsLt_bf16_f32) bitsLt_bf16_f32) broadcasts_S128x1_S128x64)) bitsLt_bf16_f32)
    shapeCasts_S128x64_S128x64

/-- The device's share of the output rows: all heads against its rows of the output weights. -/
def shareV (o : Vec F S128x512 .bf16) (w : Vec F S512x512 .bf16) : FVec F S128x512 .f32 :=
  matmul dot_S128x512_S512x512_S128x512_1_0_0_1_n_n none o
    (shapeCast S512x512 w shapeCasts_S512x512_S512x512) (constant S128x512 .f32 0x00000000#32)

/-- The share rounded, in a slot's shape. -/
def firstV (o : Vec F S128x512 .bf16) (w : Vec F S512x512 .bf16) : FVec F S1x128x512 .bf16 :=
  shapeCast S1x128x512 (truncf .bf16 (shareV o w) bitsLt_bf16_f32) shapeCasts_S128x512_S1x128x512

/-- The share added to the partial sum that arrived, rounded, in a slot's shape. -/
def nextV (o : Vec F S128x512 .bf16) (w : Vec F S512x512 .bf16) (a : Vec F S1x128x512 .bf16) : FVec F S1x128x512 .bf16 :=
  shapeCast S1x128x512 (truncf .bf16
    (addf (extf .f32 (shapeCast S128x512 a shapeCasts_S1x128x512_S128x512) bitsLt_bf16_f32) (shareV o w)) bitsLt_bf16_f32)
    shapeCasts_S128x512_S1x128x512

/-- A block in a slot's shape, as it is stored. -/
def copyV (x : Vec F S1x128x512 .bf16) : FVec F S1x128x512 .bf16 :=
  shapeCast S1x128x512 (shapeCast S128x512 x shapeCasts_S1x128x512_S128x512) shapeCasts_S128x512_S1x128x512

/-- The finished sum, widened, in a slot's shape. -/
def outV (a : Vec F S1x128x512 .bf16) : FVec F S1x128x512 .f32 :=
  shapeCast S1x128x512 (extf .f32 (shapeCast S128x512 a shapeCasts_S1x128x512_S128x512) bitsLt_bf16_f32)
    shapeCasts_S128x512_S1x128x512

/-! ## The windows of the call -/

/-- The staging buffers of `x`, of the four weights and of the output. -/
abbrev xM : Memref sig .tc .vmem S2x128x512 .bf16 := win0_0.stage 0
abbrev wqM : Memref sig .tc .vmem S512x512 .bf16 := win0_1.stage 0
abbrev wkM : Memref sig .tc .vmem S512x512 .bf16 := win0_2.stage 0
abbrev wvM : Memref sig .tc .vmem S512x512 .bf16 := win0_3.stage 0
abbrev woM : Memref sig .tc .vmem S512x512 .bf16 := win0_4.stage 0
abbrev outM : Memref sig .tc .vmem S2x128x512 .f32 := win0_5.stage 0
abbrev oM : Memref sig .tc .vmem S128x512 .bf16 := Memref.whole cc0_scratch4

/-- Read a weight block. -/
def loadW (w : Memref sig .tc .vmem S512x512 .bf16) : TProg F (Vec F S512x512 .bf16) :=
  Prog.lift (.load w (Rect.unit (s := S512x512) ![0, 0] S512x512.size inb_S512x512_S512x512_0_0).toLoadRect
    (View.loadsAt_vmem h_S512x512))

/-- Compute one head and write its columns. -/
def headP (h : Fin 8) (q k v : FVec F S128x512 .bf16) : TProg F Unit := do
  let _ ← Prog.lift (.load oM (headRect h).toLoadRect (View.loadsAt_vmem h_S128x64))
  Prog.lift (.store oM (headRect h) (headV h q k v) Finset.univ
    (View.stores_vmem h_S128x64 ((Memref.isWhole_whole cc0_scratch4).storeExact_slice rfl _ (head_packed h)) (fun _ => rfl))
    (.inl rfl))

/-- The device's attention on the rows in slot `s` of channel `κ`: all heads' outputs and the output weights. -/
def attnP (κ : Kind) (s : Fin 2) : TProg F (Vec F S128x512 .bf16 × Vec F S512x512 .bf16) := do
  let x ← loadP κ s
  let wq ← loadW wqM
  let wk ← loadW wkM
  let wv ← loadW wvM
  headP 0 (projV x wq) (projV x wk) (projV x wv)
  headP 1 (projV x wq) (projV x wk) (projV x wv)
  headP 2 (projV x wq) (projV x wk) (projV x wv)
  headP 3 (projV x wq) (projV x wk) (projV x wv)
  headP 4 (projV x wq) (projV x wk) (projV x wv)
  headP 5 (projV x wq) (projV x wk) (projV x wv)
  headP 6 (projV x wq) (projV x wk) (projV x wv)
  headP 7 (projV x wq) (projV x wk) (projV x wv)
  let o ← Prog.lift (.load oM (Rect.unit (s := S128x512) ![0, 0] S128x512.size inb_S128x512_S128x512_0_0).toLoadRect
    (View.loadsAt_vmem h_S128x512))
  let wo ← loadW woM
  pure (o, wo)

/-- Credit, then send: the rows that arrived travel on. -/
def forwardP (κ : Kind) (s : Fin 2) (n : Dev nD) : TProg F Unit := do
  crdP κ
  sendP κ s n

/-- Add the device's share to the partial sum that arrives, and send the sum on. -/
def addP (x a : Kind) (s : Fin 2) (n : Dev nD) : TProg F Unit := do
  let r ← attnP x s
  recvP a s
  let b ← loadP a s
  let _ ← loadP a s
  storeP a s (nextV r.1 r.2 b)
  crdP a
  sendP a s n

/-- One hop: the slots that left are given back, the rows in slot `s` travel on, and both partial sums
   take this device's share and travel on. `pR`, `pL` are the devices the slots are given back to, `nR`,
   `nL` those sent to. -/
def hopP (s : Fin 2) (p1 p2 p3 p4 n1 n2 n3 n4 : Dev nD) : TProg F Unit := do
  doneP .xR (1 - s) p1
  doneP .xL (1 - s) p2
  doneP .aR (1 - s) p3
  doneP .aL (1 - s) p4
  recvP .xR s
  recvP .xL s
  forwardP .xR s n1
  forwardP .xL s n2
  addP .xR .aR s n3
  addP .xL .aL s n4

/-- The two hops of a trip of the loop. -/
def tripP (d0 : Dev nD) : TProg F Unit := do
  hopP 1 ⟨k0_dev7 d0, k0_dev7_lt d0⟩ ⟨k0_dev8 d0, k0_dev8_lt d0⟩ ⟨k0_dev9 d0, k0_dev9_lt d0⟩ ⟨k0_dev10 d0, k0_dev10_lt d0⟩
    ⟨k0_dev11 d0, k0_dev11_lt d0⟩ ⟨k0_dev12 d0, k0_dev12_lt d0⟩ ⟨k0_dev13 d0, k0_dev13_lt d0⟩ ⟨k0_dev14 d0, k0_dev14_lt d0⟩
  hopP 0 ⟨k0_dev15 d0, k0_dev15_lt d0⟩ ⟨k0_dev16 d0, k0_dev16_lt d0⟩ ⟨k0_dev17 d0, k0_dev17_lt d0⟩ ⟨k0_dev18 d0, k0_dev18_lt d0⟩
    ⟨k0_dev19 d0, k0_dev19_lt d0⟩ ⟨k0_dev20 d0, k0_dev20_lt d0⟩ ⟨k0_dev21 d0, k0_dev21_lt d0⟩ ⟨k0_dev22 d0, k0_dev22_lt d0⟩

/-- Read one batch of the device's own rows of `x`. -/
def readX (b : Fin 2) : TProg F (Vec F S1x128x512 .bf16) :=
  Prog.lift (.load xM (slotRect b).toLoadRect (View.loadsAt_vmem h_S1x128x512))

/-- Copy the device's batch `b` into slot 0 of channel `κ`. -/
def initP (κ : Kind) (b : Fin 2) : TProg F Unit := do
  let x ← readX b
  let _ ← loadP κ 0
  storeP κ 0 (copyV x)

/-- The device's share for its own rows: the first partial sum, sent off. -/
def firstP (x a : Kind) (n : Dev nD) : TProg F Unit := do
  let r ← attnP x 0
  let _ ← loadP a 0
  storeP a 0 (firstV r.1 r.2)
  sendP a 0 n

/-- Write the finished sum of channel `κ` into batch `b` of the output. -/
def outP (κ : Kind) (b : Fin 2) : TProg F Unit := do
  let a ← loadP κ 0
  let _ ← Prog.lift (.load outM (slotRect b).toLoadRect (View.loadsAt_vmem h_S1x128x512))
  Prog.lift (.store outM (slotRect b) (outV a) Finset.univ (View.stores_vmem_bits_univ h_S1x128x512 rfl) (.inl rfl))

/-- The barrier with both neighbours. -/
def barP (n1 n2 : Dev nD) : TProg F Unit := do
  semSignalWord n1 (SemArray.scalar (sig.barrier 0 rfl) : Sems sig S_).sem 1#32
  semSignalWord n2 (SemArray.scalar (sig.barrier 0 rfl) : Sems sig S_).sem 1#32
  semWaitWord (SemArray.scalar (sig.barrier 0 rfl) : Sems sig S_).sem 2#32

/-- Up to the loop: the barrier, the first sends. -/
def startP (d0 : Dev nD) : TProg F Unit := do
  barP ⟨k0_dev1 d0, k0_dev1_lt d0⟩ ⟨k0_dev2 d0, k0_dev2_lt d0⟩
  initP .xR 0
  initP .xL 1
  sendP .xR 0 ⟨k0_dev3 d0, k0_dev3_lt d0⟩
  sendP .xL 0 ⟨k0_dev4 d0, k0_dev4_lt d0⟩
  firstP .xR .aR ⟨k0_dev5 d0, k0_dev5_lt d0⟩
  firstP .xL .aL ⟨k0_dev6 d0, k0_dev6_lt d0⟩

/-- The loop. -/
def loopP (d0 : Dev nD) : TProg F Unit :=
  Scf.Loop.for k0_t1_loop k0_t1_ok ⟨⟩ (fun _ _ => tripP d0)

/-- The last hop, which the program does after the loop. -/
def lastP (d0 : Dev nD) : TProg F Unit :=
  hopP 1 ⟨k0_dev23 d0, k0_dev23_lt d0⟩ ⟨k0_dev24 d0, k0_dev24_lt d0⟩ ⟨k0_dev25 d0, k0_dev25_lt d0⟩ ⟨k0_dev26 d0, k0_dev26_lt d0⟩
    ⟨k0_dev27 d0, k0_dev27_lt d0⟩ ⟨k0_dev28 d0, k0_dev28_lt d0⟩ ⟨k0_dev29 d0, k0_dev29_lt d0⟩ ⟨k0_dev30 d0, k0_dev30_lt d0⟩

/-- After the last hop: all that is under way ends, and the sums are written out. -/
def endP (d0 : Dev nD) : TProg F Unit := do
  doneP .xR 1 ⟨k0_dev31 d0, k0_dev31_lt d0⟩
  doneP .xL 1 ⟨k0_dev32 d0, k0_dev32_lt d0⟩
  doneP .aR 1 ⟨k0_dev33 d0, k0_dev33_lt d0⟩
  doneP .aL 1 ⟨k0_dev34 d0, k0_dev34_lt d0⟩
  recvP .xR 0
  recvP .xL 0
  recvP .aR 0
  recvP .aL 0
  crdP .xR
  crdP .xL
  crdP .aR
  crdP .aL
  outP .aR 0
  outP .aL 1

/-- The whole body. -/
def bodyP : TProg F Unit := do
  let d0 ← Prog.lift .deviceId
  startP d0
  loopP d0
  lastP d0
  endP d0

end Cert.Proof
-- ==== Proof.Slots.lean ====
/- The channels' buffers by slot. A slot of a channel is held with a share and with the value it reads;
   the lemmas here say what a load, a store and a transfer do to it, and that a slot held in two halves is
   a slot. -/
module

public import proofs.«01_k».proof.Proof.Prog
public import proofs.«01_k».proof.Proof.Gen.KernelIdeal.Launch
public import Idealize.ShloMosaic.Lib.Release
public import Idealize.ShloMosaic.Lib.Rounds
public import Idealize.ShloMosaic.Lib.Pipeline.Launch
public import Idealize.ShloMosaic.Lib.Pipeline.Kit
public import Idealize.ShloMosaic.Lib.Tactic

@[expose] public section

set_option synthInstance.maxSize 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra of the proof -/

/-- A slot: a device's, of a channel, one of two. -/
abbrev Key : Type := Dev nD × Kind × Fin 2

/-- The pipeline's ghost state, the rounds of the ring's semaphores, and the releases of the slots. -/
abbrev UU : Type := UR sig nD τ × (URounds (GSem nD τ sig) ℕ × Release.USlots Key)

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := Emb.inl.trans embR
abbrev ES : Emb (Release.USlots Key) (MT nD τ sig ℕ (Elt F) ℕ UU ℕ) := Emb.inr.trans embR

/-- What a slot of the contents `f` reads. -/
def slotRead (κ : Kind) (s : Fin 2) (f : (buf κ).view.ty.Contents (Elt F)) : Vec F S1x128x512 .bf16 :=
  ((buf κ).access (slotRect s)).read (Elt F) f

/-- The elements of slot `s`. -/
def slotSet (κ : Kind) (s : Fin 2) : Finset (buf κ).view.ty.Idx := ((buf κ).access (slotRect s)).set

omit [FloatOps F] in
theorem slotV_set (κ : Kind) (s : Fin 2) : (slotV κ s).view.set = slotSet κ s := View.set_reshape _ _

/-- Slot `s` of channel `κ` on device `c`, at share `q`, reading `v`. -/
def slotPt (c : Dev nD) (κ : Kind) (s : Fin 2) (q : PosShare TreeShare) (v : Vec F S1x128x512 .bf16) : sProp 𝕄 :=
  iprop(∃ f : Buf (Elt F) ((buf κ).view.loc (c : Thread nD τ)),
    ((buf κ).view.loc (c : Thread nD τ) ↦[slotSet κ s]{q} f) ∗ ⌜slotRead κ s f = v⌝)

/-- The slot at the full share, reading anything. -/
abbrev slotAny (c : Dev nD) (κ : Kind) (s : Fin 2) : sProp 𝕄 :=
  Release.slot ((buf κ).view.loc (c : Thread nD τ)) (slotSet κ s)

omit [FloatOps F] in
instance slotPt_storable (c : Dev nD) (κ : Kind) (s : Fin 2) (q) (v : Vec F S1x128x512 .bf16) :
    BI.Storable (upEmb : UEmb _ 𝕄) (slotPt c κ s q v) := by unfold slotPt; infer_instance

omit [FloatOps F] in
/-- Contents that read alike in a slot agree on it. -/
theorem slot_agree (κ : Kind) (s : Fin 2) {f g : (buf κ).view.ty.Contents (Elt F)} (h : slotRead κ s f = slotRead κ s g) :
    ∀ i ∈ slotSet κ s, f i = g i := by
  intro i hi
  obtain ⟨x, -, rfl⟩ := Finset.mem_map.mp hi
  have := congrFun h x
  exact (cast_inj (congrArg (Elt F) ((buf κ).access (slotRect s)).elt_eq)).mp this

omit [FloatOps F] in
theorem slotPt_any (c : Dev nD) (κ : Kind) (s : Fin 2) (v : Vec F S1x128x512 .bf16) :
    slotPt c κ s fullShare v ⊢ slotAny (F := F) c κ s := by
  unfold slotPt slotAny Release.slot
  iintro ⟨%f, H, -⟩
  iexists f; iexact H

omit [FloatOps F] in
theorem slotAny_pt (c : Dev nD) (κ : Kind) (s : Fin 2) :
    slotAny (F := F) c κ s ⊢ iprop(∃ v, slotPt c κ s fullShare v) := by
  unfold slotPt slotAny Release.slot
  iintro ⟨%f, H⟩
  iexists slotRead κ s f, f
  isplitl [H]; · iexact H
  ipureintro; rfl

omit [FloatOps F] in
/-- The slot in two halves. -/
theorem slotPt_halves (c : Dev nD) (κ : Kind) (s : Fin 2) (v : Vec F S1x128x512 .bf16) :
    iprop(slotPt c κ s (fullShare : PosShare TreeShare).left v ∗ slotPt c κ s (fullShare : PosShare TreeShare).right v)
      ⊢ slotPt (F := F) c κ s fullShare v := by
  unfold slotPt
  iintro ⟨⟨%f, Hf, %hf⟩, ⟨%g, Hg, %hg⟩⟩
  iexists f
  isplitl [Hf Hg]
  · ihave Hg := (Entails.of_eq (pointsTo_congr (slot_agree κ s (hg.trans hf.symm)))) $$ Hg
    iapply (pointsTo_share (PosShare.mem_left_op_right (fullShare : PosShare TreeShare))).2
    isplitl [Hf] <;> iassumption
  · ipureintro; exact hf

omit [FloatOps F] in
theorem slotRead_store (κ : Kind) (s : Fin 2) (f : (buf κ).view.ty.Contents (Elt F)) (v : Vec F S1x128x512 .bf16) :
    slotRead κ s (((buf κ).access (slotRect s)).write (Elt F) f v Finset.univ) = v := View.read_write_univ _ _

/-- The reindexing between a slot's shape and the shape of the view transfers use. -/
abbrev flatE : S128x512.Idx ≃ S1x128x512.Idx := Shape.reshapeEquiv (squeezes_S1x128x512_S128x512).numel_eq

omit [FloatOps F] in
theorem slotV_read (κ : Kind) (s : Fin 2) (f : (buf κ).view.ty.Contents (Elt F)) :
    (slotV κ s).view.read (Elt F) f = fun y => slotRead κ s f (flatE y) := rfl

omit [FloatOps F] in
/-- A slot reads, after a transfer into it, what the slot it came from reads. -/
theorem slotRead_send (κ : Kind) (s s' : Fin 2) (fs fd : (buf κ).view.ty.Contents (Elt F)) :
    slotRead κ s' ((slotV κ s').view.write (Elt F) fd ((slotV κ s).view.read (Elt F) fs) Finset.univ) = slotRead κ s fs := by
  have h : (slotV κ s').view.read (Elt F) ((slotV κ s').view.write (Elt F) fd ((slotV κ s).view.read (Elt F) fs) Finset.univ)
      = (slotV κ s).view.read (Elt F) fs := View.read_write_univ _ _
  funext x
  have h := congrFun h (flatE.symm x)
  have h : slotRead κ s' ((slotV κ s').view.write (Elt F) fd ((slotV κ s).view.read (Elt F) fs) Finset.univ) (flatE (flatE.symm x))
      = slotRead κ s fs (flatE (flatE.symm x)) := h
  rwa [Equiv.apply_symm_apply] at h

omit [FloatOps F] in
theorem slot_nonempty (κ : Kind) (s : Fin 2) : (slotSet κ s).Nonempty := by
  refine ⟨((buf κ).access (slotRect s)).emb (flatE fun a => ⟨0, by revert a; decide⟩), View.emb_mem_set _ _⟩

/-! ## Both slots are the buffer -/

theorem rect_cover : ∀ i : S2x128x512.Idx, i ∈ (slotRect 0).set ∨ i ∈ (slotRect 1).set := by
  intro i
  have h0 : (i 0).val < 2 := (i 0).isLt
  have h1 : (i 1).val < 128 := (i 1).isLt
  have h2 : (i 2).val < 512 := (i 2).isLt
  rcases Nat.lt_or_ge (i 0).val 1 with h | h
  · left
    refine (slotRect _).mem_set.mpr ?_
    intro a
    match a with
    | 0 => exact ⟨0, by decide, show (i 0).val = 0 + 1 * 0 by omega⟩
    | 1 => exact ⟨(i 1).val, h1, show (i 1).val = 0 + 1 * (i 1).val by omega⟩
    | 2 => exact ⟨(i 2).val, h2, show (i 2).val = 0 + 1 * (i 2).val by omega⟩
  · right
    refine (slotRect _).mem_set.mpr ?_
    intro a
    match a with
    | 0 => exact ⟨0, by decide, show (i 0).val = 1 + 1 * 0 by omega⟩
    | 1 => exact ⟨(i 1).val, h1, show (i 1).val = 0 + 1 * (i 1).val by omega⟩
    | 2 => exact ⟨(i 2).val, h2, show (i 2).val = 0 + 1 * (i 2).val by omega⟩

theorem rect_disjoint : Disjoint (slotRect 0).set (slotRect 1).set := by
  rw [Finset.disjoint_left]
  intro i h h'
  obtain ⟨j, hj, e⟩ := (slotRect 0).mem_set.mp h 0
  obtain ⟨j', hj', e'⟩ := (slotRect 1).mem_set.mp h' 0
  have e : (i 0).val = 0 + 1 * j := e
  have e' : (i 0).val = 1 + 1 * j' := e'
  have hj : j < 1 := hj
  have hj' : j' < 1 := hj'
  omega

theorem slots_disjoint (κ : Kind) : Disjoint (slotSet κ 0) (slotSet κ 1) := by
  unfold slotSet
  rw [View.set_slice, View.set_slice]
  exact (Finset.disjoint_map _).mpr rect_disjoint

theorem slots_cover (κ : Kind) : slotSet κ 0 ∪ slotSet κ 1 = Finset.univ := by
  unfold slotSet
  rw [View.set_slice, View.set_slice]
  refine (Finset.map_union _ _).symm.trans ?_
  rw [show (slotRect 0).set ∪ (slotRect 1).set = Finset.univ from
    Finset.eq_univ_of_forall fun i => Finset.mem_union.mpr (rect_cover i)]
  exact (buf_whole κ).set_eq_univ

/-- The whole buffer at some contents is its two slots at some. -/
def bufAny (c : Dev nD) (κ : Kind) : sProp 𝕄 :=
  iprop(∃ f : Buf (Elt F) ((buf κ).view.loc (c : Thread nD τ)), (buf κ).view.loc (c : Thread nD τ) ↦{fullShare} f)

omit [FloatOps F] in
theorem buf_split (c : Dev nD) (κ : Kind) : bufAny (F := F) c κ ⊢ iprop(slotAny c κ 0 ∗ slotAny c κ 1) := by
  unfold bufAny slotAny Release.slot
  iintro ⟨%f, H⟩
  rw [← slots_cover κ]
  ihave H := (pointsTo_union (slots_disjoint κ)).1 $$ H
  icases H with ⟨H0, H1⟩
  isplitl [H0]
  · iexists f; iexact H0
  · iexists f; iexact H1

omit [FloatOps F] in
theorem buf_join (c : Dev nD) (κ : Kind) : iprop(slotAny c κ 0 ∗ slotAny c κ 1) ⊢ bufAny (F := F) c κ := by
  unfold bufAny slotAny Release.slot
  iintro ⟨⟨%f, H0⟩, ⟨%g, H1⟩⟩
  iexists (slotSet κ 1).piecewise g f
  rw [← slots_cover κ]
  iapply (pointsTo_join (ℓ := (buf κ).view.loc (c : Thread nD τ)) (slots_disjoint κ))
  isplitl [H0] <;> iassumption

end Cert.Proof
-- ==== Proof.Proto.lean ====
/- The ring's protocol: who sends to whom, which semaphore counts what, what each payment hands over, what
   each device owes, and in which order what is owed may be waited for. -/
module

public import proofs.«01_k».proof.Proof.Slots

@[expose] public section

set_option synthInstance.maxSize 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The ring -/

set_option backward.proofsInPublic true in
def nxt (c : Dev nD) : Dev nD := ⟨(c.val + 1) % 32, Nat.mod_lt _ (by decide)⟩
set_option backward.proofsInPublic true in
def prv (c : Dev nD) : Dev nD := ⟨(c.val + 31) % 32, Nat.mod_lt _ (by decide)⟩

theorem prv_nxt (c : Dev nD) : prv (nxt c) = c := by revert c; decide
theorem nxt_prv (c : Dev nD) : nxt (prv c) = c := by revert c; decide

/-- Whom a device sends the channel's slots to. -/
def dst : Kind → Dev nD → Dev nD
  | .xR | .aR => nxt
  | .xL | .aL => prv

/-- Whom a device receives the channel's slots from. -/
def src : Kind → Dev nD → Dev nD
  | .xR | .aR => prv
  | .xL | .aL => nxt

theorem src_dst : ∀ κ c, src κ (dst κ c) = c
  | .xR, c | .aR, c => prv_nxt c
  | .xL, c | .aL, c => nxt_prv c

theorem dst_src : ∀ κ c, dst κ (src κ c) = c
  | .xR, c | .aR, c => nxt_prv c
  | .xL, c | .aL, c => prv_nxt c

/-- The ring, turned by one place as the channel sends. -/
def turn (κ : Kind) : Dev nD ≃ Dev nD := ⟨dst κ, src κ, src_dst κ, dst_src κ⟩

/-- The slot of transfer `t`. -/
def par (t : ℕ) : Fin 2 := ⟨t % 2, Nat.mod_lt _ (by decide)⟩

theorem par_two (t : ℕ) : par (t + 2) = par t := Fin.ext (Nat.add_mod_right t 2)
theorem par_sub (t : ℕ) : 1 - par t = par (t + 1) := by
  rcases Nat.mod_two_eq_zero_or_one t with h | h
  · have h0 : par t = 0 := Fin.ext h
    have h1 : par (t + 1) = 1 := Fin.ext (show (t + 1) % 2 = 1 by omega)
    rw [h0, h1]; rfl
  · have h0 : par t = 1 := Fin.ext h
    have h1 : par (t + 1) = 0 := Fin.ext (show (t + 1) % 2 = 0 by omega)
    rw [h0, h1]; rfl

/-! ## The values that travel -/

/-- What the devices start from: per device the two batches of its rows and its blocks of the weights. -/
structure Inp (F : FTy → Type) where
  x : Dev nD → Fin 2 → Vec F S1x128x512 .bf16
  wq : Dev nD → Vec F S512x512 .bf16
  wk : Dev nD → Vec F S512x512 .bf16
  wv : Dev nD → Vec F S512x512 .bf16
  wo : Dev nD → Vec F S512x512 .bf16

/-- The batch whose rows go in the channel's direction. -/
def batch : Kind → Fin 2
  | .xR | .aR => 0
  | .xL | .aL => 1

/-- All heads' outputs side by side. -/
def headsV (q k v : FVec F S128x512 .bf16) : Vec F S128x512 .bf16 := fun i =>
  headV (F := F) ⟨(i 1).val / 64, Nat.div_lt_of_lt_mul (show (i 1).val < 64 * 8 from (i 1).isLt)⟩ q k v
    (fun | ⟨0, _⟩ => i 0 | ⟨1, _⟩ => ⟨(i 1).val % 64, Nat.mod_lt _ (by decide)⟩)

/-- Device `c`'s heads on the rows `x`. -/
def attnV (I : Inp F) (c : Dev nD) (x : Vec F S1x128x512 .bf16) : Vec F S128x512 .bf16 :=
  headsV (projV x (I.wq c)) (projV x (I.wk c)) (projV x (I.wv c))

/-- The rows device `c` sends in transfer `t`: its own, then those it received. -/
def sentX (I : Inp F) (κ : Kind) : Dev nD → ℕ → Vec F S1x128x512 .bf16
  | c, 0 => copyV (I.x c (batch κ))
  | c, t + 1 => sentX I κ (src κ c) t

/-- The partial sum device `c` sends in transfer `t`: its share of its own rows, then its share of the rows
    that arrived on top of the sum that arrived. -/
def sentA (I : Inp F) (κ : Kind) : Dev nD → ℕ → Vec F S1x128x512 .bf16
  | c, 0 => firstV (attnV I c (sentX I κ c 0)) (I.wo c)
  | c, t + 1 => nextV (attnV I c (sentX I κ c (t + 1))) (I.wo c) (sentA I κ (src κ c) t)

/-- What device `c` sends on the channel in transfer `t`. -/
def sent (I : Inp F) : Kind → Dev nD → ℕ → Vec F S1x128x512 .bf16
  | .xR => sentX I .xR
  | .xL => sentX I .xL
  | .aR => sentA I .aR
  | .aL => sentA I .aL

/-! ## The semaphores -/

/-- A device's semaphores of the ring. -/
inductive Cell | bar | snd (κ : Kind) (s : Fin 2) | rcv (κ : Kind) (s : Fin 2) | crd (κ : Kind)
  deriving DecidableEq

abbrev barS : Sem sig := (SemArray.scalar (sig.barrier 0 rfl) : Sems sig S_).sem

def csem : Cell → SemLoc sig
  | .bar => .reg barS
  | .snd κ s => .dma (semAt (sndArr κ) s)
  | .rcv κ s => .dma (semAt (rcvArr κ) s)
  | .crd κ => .reg (crdArr κ).sem

/-- Its cell on device `c`. -/
abbrev cell (c : Dev nD) (x : Cell) : GSem nD τ sig := ((c : Thread nD τ), csem x)

/-- Every cell, in the order of the semaphores. -/
def cells : List Cell :=
  [.snd .xR 0, .snd .xR 1, .rcv .xR 0, .rcv .xR 1, .snd .aR 0, .snd .aR 1, .rcv .aR 0, .rcv .aR 1,
   .snd .xL 0, .snd .xL 1, .rcv .xL 0, .rcv .xL 1, .snd .aL 0, .snd .aL 1, .rcv .aL 0, .rcv .aL 1,
   .crd .xR, .crd .aR, .crd .xL, .crd .aL, .bar]

theorem mem_cells : ∀ x : Cell, x ∈ cells
  | .bar => by decide
  | .crd κ => by cases κ <;> decide
  | .snd κ s => by revert s; cases κ <;> decide
  | .rcv κ s => by revert s; cases κ <;> decide

instance : Fintype Cell := ⟨cells.toFinset, fun x => List.mem_toFinset.mpr (mem_cells x)⟩

theorem csem_inj : Function.Injective csem := by
  have h : ∀ x ∈ cells, ∀ y ∈ cells, csem x = csem y → x = y := by decide
  exact fun x y e => h x (mem_cells x) y (mem_cells y) e

theorem cell_inj {c c' : Dev nD} {x x' : Cell} (h : cell c x = cell c' x') : c = c' ∧ x = x' := by
  have h1 : (c : Thread nD τ) = (c' : Thread nD τ) := congrArg Prod.fst h
  exact ⟨congrArg Prod.fst h1, csem_inj (congrArg Prod.snd h)⟩

/-- Which cell a semaphore is. -/
def which (g : GSem nD τ sig) : Option Cell := if g.1.2 = .tc then Function.partialInv csem g.2 else none

theorem which_cell (c : Dev nD) (x : Cell) : which (cell c x) = some x := by
  unfold which
  rw [if_pos rfl]
  exact Function.partialInv_left csem_inj x

/-- What a slot's transfer counts. -/
def N : ℕ := (slotV .xR 0).view.dmaCredit
theorem N_eq (κ : Kind) (s : Fin 2) : (slotV κ s).view.dmaCredit = N := rfl
theorem N_pos : 0 < N := View.dmaCredit_pos _ (by decide)
attribute [irreducible] N

/-! ## What a payment hands over -/

/-- Device `e` may be sent transfer `t`: it has emptied the slot, and has waited for all before. -/
def Ready (κ : Kind) (e : Dev nD) (t : ℕ) : sProp 𝕄 :=
  iprop(reached ER (cell e (.rcv κ (par (t + 1)))) (t / 2) ∗ Release.released ES (e, κ, par (t + 1)) (t / 2 + 1))

/-- Device `e` may be sent the transfers up to `k`. -/
def Fact (κ : Kind) (e : Dev nD) (k : ℕ) : sProp 𝕄 := iprop(Ready κ e k ∗ Ready κ e (k - 1))

omit [FloatOps F] in
instance Ready_persistent (κ : Kind) (e : Dev nD) (t : ℕ) : BI.Persistent (Ready (F := F) κ e t) := by unfold Ready; infer_instance
omit [FloatOps F] in
instance Fact_persistent (κ : Kind) (e : Dev nD) (t : ℕ) : BI.Persistent (Fact (F := F) κ e t) := by unfold Fact; infer_instance
omit [FloatOps F] in
instance Ready_storable (κ : Kind) (e : Dev nD) (t : ℕ) : BI.Storable (upEmb : UEmb _ 𝕄) (Ready (F := F) κ e t) := by unfold Ready; infer_instance
omit [FloatOps F] in
instance Fact_storable (κ : Kind) (e : Dev nD) (t : ℕ) : BI.Storable (upEmb : UEmb _ 𝕄) (Fact (F := F) κ e t) := by unfold Fact; infer_instance

omit [FloatOps F] in
theorem Ready_mono (κ : Kind) (e : Dev nD) {t u : ℕ} (h : t ≤ u) (hp : par u = par t) : Ready (F := F) κ e u ⊢ Ready κ e t := by
  have hp' : par (u + 1) = par (t + 1) := by
    rw [← par_sub, ← par_sub, hp]
  unfold Ready
  rw [hp']
  exact BI.sep_mono (reached_mono ER (Nat.div_le_div_right h)) (Release.released_mono ES (Nat.succ_le_succ (Nat.div_le_div_right h)))

omit [FloatOps F] in
theorem Fact_step (κ : Kind) (e : Dev nD) {k : ℕ} (hk : 1 ≤ k) : Fact (F := F) κ e (k + 1) ⊢ Fact κ e k := by
  unfold Fact
  iintro ⟨H, H'⟩
  isplitl [H']; · iexact H'
  iapply (Ready_mono (F := F) κ e (t := k - 1) (u := k + 1) (by omega) (by
    obtain ⟨j, rfl⟩ := Nat.exists_eq_add_of_le' hk
    exact par_two j))
  iexact H

omit [FloatOps F] in
theorem Fact_mono (κ : Kind) (e : Dev nD) {k : ℕ} (hk : 1 ≤ k) : ∀ j, Fact (F := F) κ e (k + j) ⊢ Fact κ e k
  | 0 => .rfl
  | j + 1 => (Fact_step κ e (by omega : 1 ≤ k + j)).trans (Fact_mono κ e hk j)

/-! ## The schedule -/

def dutiesC : Cell → ℕ → Finset ℕ
  | .bar, r => if r = 0 then {0, 1} else ∅
  | .snd _ _, r => if r < 16 then {0} else ∅
  | .rcv _ _, r => if r < 16 then {0} else ∅
  | .crd _, r => if r = 0 then Finset.Icc 1 32 else ∅

def amountC : Cell → ℕ
  | .bar => 1
  | .snd _ _ => N
  | .rcv _ _ => N
  | .crd _ => 1

def payC (I : Inp F) (e : Dev nD) : Cell → ℕ → ℕ → sProp 𝕄
  | .bar, _, d => if d = 1 then iprop(Ready .xR (nxt e) 0 ∗ Ready .aR (nxt e) 0) else iprop(Ready .xL (prv e) 0 ∗ Ready .aL (prv e) 0)
  | .snd κ s, r, _ => slotPt e κ s (fullShare : PosShare TreeShare).left (sent I κ e (2 * r + s.val))
  | .rcv κ s, r, _ => slotPt e κ s fullShare (sent I κ (src κ e) (2 * r + 1 - s.val))
  | .crd κ, _, j => Fact κ (dst κ e) (min j 31)

theorem amountC_pos (x : Cell) : 0 < amountC x := by
  unfold amountC
  split
  · exact Nat.one_pos
  · exact N_pos
  · exact N_pos
  · exact Nat.one_pos

instance payC_storable (I : Inp F) (e : Dev nD) (x : Cell) (r d : ℕ) : BI.Storable (upEmb : UEmb _ 𝕄) (payC I e x r d) := by
  unfold payC
  (repeat' split) <;> infer_instance

/-- The duties, amounts and payloads of a semaphore that may be none of the ring's. -/
def dutiesO (x : Option Cell) (r : ℕ) : Finset ℕ := x.elim ∅ fun x => dutiesC x r
def amountO (x : Option Cell) : ℕ := x.elim 1 amountC
def payO (I : Inp F) (e : Dev nD) (x : Option Cell) (r d : ℕ) : sProp 𝕄 := x.elim iprop(emp) fun x => payC I e x r d

theorem amountO_pos : ∀ x, 0 < amountO x
  | none => Nat.one_pos
  | some x => amountC_pos x

instance payO_storable (I : Inp F) (e : Dev nD) (x : Option Cell) (r d : ℕ) : BI.Storable (upEmb : UEmb _ 𝕄) (payO I e x r d) := by
  cases x with
  | none => unfold payO; dsimp only [Option.elim]; infer_instance
  | some x => exact payC_storable I e x r d

/-- The rounds of the ring's semaphores: a barrier has one round of two payments; a send or a receive
    semaphore sixteen rounds of one transfer; a credit semaphore one round of thirty-two payments. -/
def ringRd (I : Inp F) : Rounds.Schedule (GSem nD τ sig) ℕ 𝕄 where
  duties g r := dutiesO (which g) r
  unitless _ := False
  amount g _ _ := amountO (which g)
  payload g r d := payO I g.1.1 (which g) r d
  amount_pos g _ _ _ := amountO_pos (which g)

instance ringRd_payload_storable (I : Inp F) (g : GSem nD τ sig) (r d : ℕ) :
    BI.Storable (upEmb : UEmb _ 𝕄) ((ringRd I).payload g r d) := payO_storable I g.1.1 (which g) r d

section Sched
variable (I : Inp F) (c : Dev nD) (x : Cell) (r d : ℕ)

theorem duties_cell : (ringRd I).duties (cell c x) r = dutiesC x r :=
  congrArg (dutiesO · r) (which_cell c x)
theorem amount_cell : (ringRd I).amount (cell c x) r d = amountC x :=
  congrArg amountO (which_cell c x)
theorem payload_cell : (ringRd I).payload (cell c x) r d = payC I c x r d :=
  congrArg (payO I c · r d) (which_cell c x)

theorem expect_cell : (ringRd I).expect (cell c x) r = (dutiesC x r).card * amountC x := by
  unfold Schedule.expect Schedule.amountOf
  rw [duties_cell, Finset.sum_congr rfl fun d _ => amount_cell I c x r d, Finset.sum_const, smul_eq_mul]

end Sched

/-! ## What a device owes -/

/-- A payment: a transfer, a credit, or a barrier signal (to the device after or before). -/
inductive Ob | send (κ : Kind) (t : ℕ) | crd (κ : Kind) (j : ℕ) | bar (right : Bool)
  deriving DecidableEq

/-- The place of a payment in the order of waits. -/
def Ob.lvl : Ob → ℕ
  | .send _ t => 2 * (t + 1)
  | .crd _ j => 2 * j + 1
  | .bar _ => 1

/-- Its cell. -/
def Ob.cell (c : Dev nD) : Ob → GSem nD τ sig
  | .send κ t => Cert.Proof.cell (dst κ c) (.rcv κ (par (t + 1)))
  | .crd κ _ => Cert.Proof.cell (src κ c) (.crd κ)
  | .bar true => Cert.Proof.cell (nxt c) .bar
  | .bar false => Cert.Proof.cell (prv c) .bar

/-- Its units. -/
def Ob.units : Ob → ℕ
  | .send _ _ => N
  | _ => 1

/-- What the payments `S` of device `c` come to. -/
def owed (c : Dev nD) (S : Finset Ob) : CellTallies nD τ sig ℕ := ∑ o ∈ S, tallyAt (o.cell c) o.lvl o.units

theorem owed_empty (c : Dev nD) : owed c ∅ = 0 := Finset.sum_empty

theorem owed_insert (c : Dev nD) {o : Ob} {S : Finset Ob} (h : o ∉ S) :
    owed c (insert o S) = owed c S + tallyAt (o.cell c) o.lvl o.units := by
  unfold owed; rw [Finset.sum_insert h, add_comm]

theorem owed_pos {c : Dev nD} {S : Finset Ob} {g : GSem nD τ sig} {ι : ℕ} (h : 0 < owed c S g ι) :
    ∃ o ∈ S, g = o.cell c ∧ ι = o.lvl := by
  induction S using Finset.induction_on with
  | empty => rw [owed_empty] at h; exact absurd h (Nat.lt_irrefl 0)
  | insert o S ho ih =>
    rw [owed_insert c ho, Pi.add_apply, Finsupp.add_apply, tallyAt_apply] at h
    by_cases h' : g = o.cell c ∧ ι = o.lvl
    · exact ⟨o, Finset.mem_insert_self _ _, h'⟩
    · rw [if_neg h', Nat.add_zero] at h
      obtain ⟨o', ho', e⟩ := ih h
      exact ⟨o', Finset.mem_insert_of_mem ho', e⟩

/-- The indices of a cell's units, and their order: an index is its own place. -/
def L (g : GSem nD τ sig) : Finset ℕ := if g.1.2 = .tc then Finset.range 66 else ∅
def lv (_ : GSem nD τ sig) (ι : ℕ) : ℕ := ι

theorem L_of_ne (g : GSem nD τ sig) (h : g.1.2 ≠ .tc) : L g = ∅ := if_neg h
theorem L_tc (c : Dev nD) (sm : SemLoc sig) : L ((c : Thread nD τ), sm) = Finset.range 66 := if_pos rfl
theorem L_ob (c : Dev nD) : ∀ o : Ob, L (o.cell c) = Finset.range 66
  | .send _ _ => if_pos rfl
  | .crd _ _ => if_pos rfl
  | .bar true => if_pos rfl
  | .bar false => if_pos rfl

/-- A wait at a place below all that is owed. -/
theorem mayWait (c : Dev nD) (sm : SemLoc sig) (ι : ℕ) (S : Finset Ob) (hι : ι < 66) (h : ∀ o ∈ S, ι < o.lvl ∧ o.lvl < 66) :
    (levAts L lv : sProp 𝕄) ⊢ MayWait (c : Thread nD τ) sm ι (owed c S) :=
  MayOwe.of_cut (L := L) (lev := lv) ι
    (fun p hp => by rw [Finset.mem_singleton.mp hp, L_tc]; exact Finset.mem_range.mpr hι)
    (fun g u hg => by
      obtain ⟨o, ho, rfl, rfl⟩ := owed_pos hg
      rw [L_ob]; exact Finset.mem_range.mpr (h o ho).2)
    (fun p hp => by rw [Finset.mem_singleton.mp hp]; exact le_rfl)
    (fun g u hg => by
      obtain ⟨o, ho, rfl, rfl⟩ := owed_pos hg
      exact (h o ho).1)

/-- What is owed from hop `k` on. -/
def obs (k : ℕ) : Finset Ob :=
  ((Finset.univ ×ˢ Finset.Ico k 32).image fun p : Kind × ℕ => Ob.send p.1 p.2)
    ∪ (Finset.univ ×ˢ Finset.Ico k 33).image fun p : Kind × ℕ => Ob.crd p.1 p.2

theorem send_mem_obs {k t : ℕ} {κ : Kind} : Ob.send κ t ∈ obs k ↔ k ≤ t ∧ t < 32 := by
  unfold obs
  simp [Finset.mem_union, Finset.mem_image, Finset.mem_product, Finset.mem_Ico]
theorem crd_mem_obs {k j : ℕ} {κ : Kind} : Ob.crd κ j ∈ obs k ↔ k ≤ j ∧ j < 33 := by
  unfold obs
  simp [Finset.mem_union, Finset.mem_image, Finset.mem_product, Finset.mem_Ico]
theorem bar_mem_obs {k : ℕ} {b : Bool} : ¬ Ob.bar b ∈ obs k := by
  unfold obs
  simp [Finset.mem_union, Finset.mem_image]

/-- The four payments of one sort for index `k`, on top of `S`. -/
def four (f : Kind → Ob) (S : Finset Ob) : Finset Ob := insert (f .xR) (insert (f .xL) (insert (f .aR) (insert (f .aL) S)))

theorem mem_four {f : Kind → Ob} {S : Finset Ob} {o : Ob} : o ∈ four f S ↔ (∃ κ, o = f κ) ∨ o ∈ S := by
  unfold four
  simp only [Finset.mem_insert]
  constructor
  · rintro (h | h | h | h | h)
    · exact .inl ⟨_, h⟩
    · exact .inl ⟨_, h⟩
    · exact .inl ⟨_, h⟩
    · exact .inl ⟨_, h⟩
    · exact .inr h
  · rintro (⟨κ, h⟩ | h)
    · cases κ <;> simp [h]
    · simp [h]

/-- Hop `k` pays four credits and four transfers. -/
theorem obs_hop {k : ℕ} (hk : k < 32) : obs k = four (fun κ => .crd κ k) (four (fun κ => .send κ k) (obs (k + 1))) := by
  ext o
  rw [mem_four, mem_four]
  cases o with
  | send κ t => simp [send_mem_obs]; omega
  | crd κ j => simp [crd_mem_obs]; omega
  | bar b => simp [bar_mem_obs]

/-- At the end four credits are left. -/
theorem obs_last : obs 32 = four (fun κ => .crd κ 32) ∅ := by
  ext o
  rw [mem_four]
  cases o with
  | send κ t => simp [send_mem_obs]
  | crd κ j => simp [crd_mem_obs]; omega
  | bar b => simp [bar_mem_obs]

end Cert.Proof
-- ==== Proof.Chan.lean ====
/- One channel on one device: what it holds between two hops and within one, and what each of the program's
   steps does to it. -/
module

public import proofs.«01_k».proof.Proof.Proto

@[expose] public section

set_option synthInstance.maxSize 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The weakest precondition of a program of device `c`. -/
abbrev wpc (c : Dev nD) {α : Type} (p : TProg F α) (Q : α → sProp 𝕄) : sProp 𝕄 :=
  wp frame (wpE (defs₀ (F := F)) 𝒱₀ (c : Thread nD τ) none) Set.univ p Q

section Steps

variable (I : Inp F) (Kn : Dev nD × Cell → ℕ) (Sn : Key → ℕ)

/-- What every device knows: all cells, all slots, that every cell has begun, and the order of waits. -/
def ctx : sProp 𝕄 :=
  iprop(bigSep Finset.univ (fun p : Dev nD × Cell => cellInv ER (ringRd I) (Kn p) (cell p.1 p.2))
    ∗ bigSep Finset.univ (fun k : Key => Release.slotInv ES (Sn k) k (slotAny (F := F) k.1 k.2.1 k.2.2))
    ∗ bigSep Finset.univ (fun p : Dev nD × Cell => reached ER (cell p.1 p.2) 0)
    ∗ levAts L lv)

instance ctx_persistent : BI.Persistent (ctx I Kn Sn) := by unfold ctx; infer_instance

theorem ctx_cell (c : Dev nD) (x : Cell) : ctx I Kn Sn ⊢ cellInv ER (ringRd I) (Kn (c, x)) (cell c x) := by
  have h : bigSep Finset.univ (fun p : Dev nD × Cell => cellInv ER (ringRd I) (Kn p) (cell p.1 p.2))
      ⊢ cellInv ER (ringRd I) (Kn (c, x)) (cell c x) := bigSep_elim (Finset.mem_univ (c, x))
  unfold ctx
  iintro ⟨H, -, -, -⟩
  iapply h; iexact H

theorem ctx_slot (c : Dev nD) (κ : Kind) (s : Fin 2) :
    ctx I Kn Sn ⊢ Release.slotInv ES (Sn (c, κ, s)) (c, κ, s) (slotAny (F := F) c κ s) := by
  have h : bigSep Finset.univ (fun k : Key => Release.slotInv ES (Sn k) k (slotAny (F := F) k.1 k.2.1 k.2.2))
      ⊢ Release.slotInv ES (Sn (c, κ, s)) (c, κ, s) (slotAny (F := F) c κ s) := bigSep_elim (Finset.mem_univ (c, κ, s))
  unfold ctx
  iintro ⟨-, H, -, -⟩
  iapply h; iexact H

theorem ctx_reached (c : Dev nD) (x : Cell) : ctx I Kn Sn ⊢ reached ER (cell c x) 0 := by
  have h : bigSep Finset.univ (fun p : Dev nD × Cell => (reached ER (cell p.1 p.2) 0 : sProp 𝕄))
      ⊢ reached ER (cell c x) 0 := bigSep_elim (Finset.mem_univ (c, x))
  unfold ctx
  iintro ⟨-, -, H, -⟩
  iapply h; iexact H

theorem ctx_lev : ctx I Kn Sn ⊢ levAts L lv := by
  unfold ctx
  iintro ⟨-, -, -, H⟩
  iexact H

/-- What device `c` owes, whatever it has waited for. -/
def own (c : Dev nD) (S : Finset Ob) : sProp 𝕄 := iprop(∃ W, owes (c : Thread nD τ) (owed c S) W)

/-- The rights to make transfer `t`. -/
def SendTok (κ : Kind) (c : Dev nD) (t : ℕ) : sProp 𝕄 :=
  iprop(dutyTok ER (cell c (.snd κ (par t))) (t / 2) 0 ∗ dutyTok ER (cell (dst κ c) (.rcv κ (par (t + 1)))) (t / 2) 0
    ∗ Release.writeTok ES (dst κ c, κ, par (t + 1)) (t / 2 + 1))
/-- The right to give credit `j`. -/
def CrdTok (κ : Kind) (c : Dev nD) (j : ℕ) : sProp 𝕄 := dutyTok ER (cell (src κ c) (.crd κ)) 0 j
/-- The right to wait for transfer `t` to arrive. -/
def RcvTok (κ : Kind) (c : Dev nD) (t : ℕ) : sProp 𝕄 := cred (tallyAt (cell c (.rcv κ (par (t + 1)))) (2 * (t + 1)) N)
/-- The right to wait for credit `j`. -/
def CwTok (κ : Kind) (c : Dev nD) (j : ℕ) : sProp 𝕄 := cred (tallyAt (cell c (.crd κ)) (2 * j + 1) 1)

/-- Everything not used before transfer `t`: rights to send from `t`, to give credit from `j`, to wait for
    arrivals from `r` and for credits from `w`. -/
def Toks (κ : Kind) (c : Dev nD) (t j r w : ℕ) : sProp 𝕄 :=
  iprop(bigSep (Finset.Ico t 32) (SendTok (F := F) κ c) ∗ bigSep (Finset.Ico j 33) (CrdTok (F := F) κ c)
    ∗ bigSep (Finset.Ico r 32) (RcvTok (F := F) κ c) ∗ bigSep (Finset.Ico w 33) (CwTok (F := F) κ c))

/-- `t` credits consumed, and what they said. -/
def CrdPos (κ : Kind) (c : Dev nD) (t : ℕ) : sProp 𝕄 :=
  iprop(∃ T : Finset ℕ, ⌜T ⊆ Finset.Icc 1 32⌝ ∗ atPos ER (cell c (.crd κ)) 0 T t
    ∗ bigSep T (fun j => Fact (F := F) κ (dst κ c) (min j 31)))

/-- The position at a semaphore of an array, with the mark that its round is reached. -/
def At (c : Dev nD) (x : Cell) (r : ℕ) : sProp 𝕄 := iprop(atPos ER (cell c x) r ∅ 0 ∗ reached ER (cell c x) r)

/-- The channel with transfer `t` under way. -/
def Chan (κ : Kind) (c : Dev nD) (t : ℕ) : sProp 𝕄 :=
  iprop(slotPt c κ (par t) (fullShare : PosShare TreeShare).right (sent I κ c t)
    ∗ cred (tallyAt (cell c (.snd κ (par t))) 0 N)
    ∗ At (F := F) c (.snd κ (par t)) (t / 2) ∗ At (F := F) c (.snd κ (par (t + 1))) ((t + 1) / 2)
    ∗ At (F := F) c (.rcv κ (par (t + 1))) (t / 2) ∗ At (F := F) c (.rcv κ (par t)) ((t + 1) / 2)
    ∗ Release.readerAt ES (c, κ, par t) ((t + 1) / 2) ∗ Release.readerAt ES (c, κ, par (t + 1)) (t / 2 + 1)
    ∗ Fact κ c t ∗ CrdPos (F := F) κ c t ∗ Toks (F := F) κ c (t + 1) (t + 1) t (t + 1))

/-- After transfer `t` has left, its slot is given back and credit `t + 1` is given. -/
def ChanDone (κ : Kind) (c : Dev nD) (t : ℕ) : sProp 𝕄 :=
  iprop(At (F := F) c (.snd κ (par t)) (t / 2 + 1) ∗ At (F := F) c (.snd κ (par (t + 1))) ((t + 1) / 2)
    ∗ At (F := F) c (.rcv κ (par (t + 1))) (t / 2) ∗ At (F := F) c (.rcv κ (par t)) ((t + 1) / 2)
    ∗ Release.readerAt ES (c, κ, par t) ((t + 1) / 2 + 1) ∗ Release.readerAt ES (c, κ, par (t + 1)) (t / 2 + 1)
    ∗ Fact κ c (t + 1) ∗ CrdPos (F := F) κ c t ∗ Toks (F := F) κ c (t + 1) (t + 2) t (t + 1))

/-- After transfer `t` has arrived: its slot reads `v`. -/
def ChanGot (κ : Kind) (c : Dev nD) (t : ℕ) (v : Vec F S1x128x512 .bf16) : sProp 𝕄 :=
  iprop(slotPt c κ (par (t + 1)) fullShare v
    ∗ At (F := F) c (.snd κ (par t)) (t / 2 + 1) ∗ At (F := F) c (.snd κ (par (t + 1))) ((t + 1) / 2)
    ∗ At (F := F) c (.rcv κ (par (t + 1))) (t / 2 + 1) ∗ At (F := F) c (.rcv κ (par t)) ((t + 1) / 2)
    ∗ Release.readerAt ES (c, κ, par t) ((t + 1) / 2 + 1) ∗ Release.readerAt ES (c, κ, par (t + 1)) (t / 2 + 1)
    ∗ Fact κ c (t + 1) ∗ CrdPos (F := F) κ c t ∗ Toks (F := F) κ c (t + 1) (t + 2) (t + 1) (t + 1))

/-- Every payment of `S` comes after place `ι`. -/
def Above (ι : ℕ) (S : Finset Ob) : Prop := ∀ o ∈ S, ι < o.lvl ∧ o.lvl < 66

theorem Above_insert {ι : ℕ} {o : Ob} {S : Finset Ob} (h : ι < o.lvl ∧ o.lvl < 66) (hS : Above ι S) : Above ι (insert o S) := by
  intro o' ho'
  rcases Finset.mem_insert.mp ho' with rfl | h'
  · exact h
  · exact hS o' h'

theorem Above_mono {ι ι' : ℕ} {S : Finset Ob} (h : ι' ≤ ι) (hS : Above ι S) : Above ι' S :=
  fun o ho => ⟨lt_of_le_of_lt h (hS o ho).1, (hS o ho).2⟩

theorem Above_four {ι : ℕ} {f : Kind → Ob} {S : Finset Ob} (h : ∀ κ, ι < (f κ).lvl ∧ (f κ).lvl < 66) (hS : Above ι S) :
    Above ι (four f S) := by
  unfold four
  exact Above_insert (h _) (Above_insert (h _) (Above_insert (h _) (Above_insert (h _) hS)))

theorem Above_obs (k : ℕ) : Above (2 * k) (obs k) := by
  intro o ho
  cases o with
  | send κ t => have := send_mem_obs.mp ho; simp only [Ob.lvl]; omega
  | crd κ j => have := crd_mem_obs.mp ho; simp only [Ob.lvl]; omega
  | bar b => exact absurd ho bar_mem_obs

/-! ### Waiting for a transfer to leave -/

theorem payC_snd (c : Dev nD) (κ : Kind) (t d : ℕ) :
    payC I c (.snd κ (par t)) (t / 2) d = slotPt c κ (par t) (fullShare : PosShare TreeShare).left (sent I κ c t) := by
  show slotPt c κ (par t) (fullShare : PosShare TreeShare).left (sent I κ c (2 * (t / 2) + t % 2)) = _
  rw [Nat.div_add_mod]

theorem payC_rcv (c : Dev nD) (κ : Kind) (t d : ℕ) :
    payC I c (.rcv κ (par (t + 1))) (t / 2) d = slotPt c κ (par (t + 1)) fullShare (sent I κ (src κ c) t) := by
  show slotPt c κ (par (t + 1)) fullShare (sent I κ (src κ c) (2 * (t / 2) + 1 - (t + 1) % 2)) = _
  rw [show 2 * (t / 2) + 1 - (t + 1) % 2 = t by omega]

omit [FloatOps F] in
theorem dutiesC_snd {κ : Kind} {s : Fin 2} {t : ℕ} (ht : t < 32) : dutiesC (.snd κ s) (t / 2) = {0} := if_pos (by omega)
omit [FloatOps F] in
theorem dutiesC_rcv {κ : Kind} {s : Fin 2} {t : ℕ} (ht : t < 32) : dutiesC (.rcv κ s) (t / 2) = {0} := if_pos (by omega)

theorem rest_snd (c : Dev nD) (κ : Kind) {t : ℕ} (ht : t < 32) :
    bigSep ((ringRd I).duties (cell c (.snd κ (par t))) (t / 2) \ ∅) (fun d => (ringRd I).payload (cell c (.snd κ (par t))) (t / 2) d)
      = slotPt c κ (par t) (fullShare : PosShare TreeShare).left (sent I κ c t) := by
  rw [Finset.sdiff_empty, duties_cell, dutiesC_snd ht, bigSep_singleton, payload_cell, payC_snd]

theorem rest_rcv (c : Dev nD) (κ : Kind) {t : ℕ} (ht : t < 32) :
    bigSep ((ringRd I).duties (cell c (.rcv κ (par (t + 1)))) (t / 2) \ ∅) (fun d => (ringRd I).payload (cell c (.rcv κ (par (t + 1)))) (t / 2) d)
      = slotPt c κ (par (t + 1)) fullShare (sent I κ (src κ c) t) := by
  rw [Finset.sdiff_empty, duties_cell, dutiesC_rcv ht, bigSep_singleton, payload_cell, payC_rcv]

theorem expect_snd (c : Dev nD) (κ : Kind) (s : Fin 2) {t : ℕ} (ht : t < 32) : (ringRd I).expect (cell c (.snd κ s)) (t / 2) = N := by
  rw [expect_cell, dutiesC_snd ht, Finset.card_singleton, Nat.one_mul]; rfl
theorem expect_rcv (c : Dev nD) (κ : Kind) (s : Fin 2) {t : ℕ} (ht : t < 32) : (ringRd I).expect (cell c (.rcv κ s)) (t / 2) = N := by
  rw [expect_cell, dutiesC_rcv ht, Finset.card_singleton, Nat.one_mul]; rfl

/-- The record of levels allows a wait below everything owed. -/
theorem ctx_mayWait (c : Dev nD) (sm : SemLoc sig) (ι : ℕ) (S : Finset Ob) (hι : ι < 66) (h : Above ι S) :
    ctx I Kn Sn ⊢ MayWait (c : Thread nD τ) sm ι (owed c S) :=
  (@ctx_lev F _ I Kn Sn).trans (@mayWait F _ c sm ι S hι h)

/-- What a wait for a slot's transfer asks. -/
theorem waitSpec_slot (c : Dev nD) (κ : Kind) (s : Fin 2) (q : DmaSem sig) (h₁ h₂ : (slotV κ s).view.WordExact) (K : PUnit → sProp 𝕄) :
    wpE (defs₀ (F := F)) 𝒱₀ (c : Thread nD τ) none Set.univ (.waitDma2 q (slotV κ s) (slotV κ s) h₁ h₂) K
      = waitSpec (c : Thread nD τ) Set.univ (.dma q) N K :=
  (wpE_waitDma2_eq 𝒱₀ (c : Thread nD τ) none Set.univ K).trans (congrArg (waitSpec (c : Thread nD τ) Set.univ (.dma q) · K) (N_eq κ s))

/-- The wait for transfer `t` to have left gives the lent half of its slot back. -/
theorem wp_left (c : Dev nD) (κ : Kind) {t : ℕ} (ht : t < 32) (S : Finset Ob) (hS : Above 0 S)
    {α : Type} {k : PUnit → TProg F α} {Q : α → sProp 𝕄} {h₁ : (slotV κ (par t)).view.WordExact} {h₂ : (slotV κ (par t)).view.WordExact} :
    iprop(ctx I Kn Sn ∗ cred (tallyAt (cell c (.snd κ (par t))) 0 N) ∗ own c S ∗ At (F := F) c (.snd κ (par t)) (t / 2))
      ⊢ iprop(((own c S ∗ At (F := F) c (.snd κ (par t)) (t / 2 + 1)
            ∗ slotPt c κ (par t) (fullShare : PosShare TreeShare).left (sent I κ c t)) -∗ wpc c (k ⟨⟩) Q)
          -∗ wpc c (.op (.waitDma2 (semAt (sndArr κ) (par t)) (slotV κ (par t)) (slotV κ (par t)) h₁ h₂) k) Q) := by
  unfold own At
  iintro ⟨#Hctx, Hcr, ⟨%W, HO⟩, Hat, -⟩ Hk
  iapply (Rounds.wp_wait_rest_token 𝒱₀ ER (ringRd I) (c : Thread nD τ) none (κ := Kn (c, .snd κ (par t))) (sm := csem (.snd κ (par t))) (k' := N)
      (fun K => waitSpec_slot c κ _ _ h₁ h₂ K) (Set.mem_univ _) 0 (O := owed c S) (W := W) (R := t / 2) (m := 0) (T := ∅)
      (by rw [Nat.zero_add]; exact (expect_snd I c κ (par t) ht).symm)) $$ [Hcr HO Hat]
  · isplitr; · iapply (ctx_cell I Kn Sn c (.snd κ (par t))); iexact Hctx
    isplitl [Hcr]; · iexact Hcr
    isplitl [HO]; · iexact HO
    isplitr
    · iapply (ctx_mayWait I Kn Sn c (csem (.snd κ (par t))) 0 S (by decide) hS); iexact Hctx
    iexact Hat
  iintro ⟨HO, Hat, Hr, Hpay⟩
  ihave Hpay := (Entails.of_eq (rest_snd I c κ ht)) $$ Hpay
  iapply Hk
  isplitl [HO]; · iexists _; iexact HO
  isplitr [Hpay]
  · isplitl [Hat] <;> iassumption
  · iexact Hpay

/-- The wait for transfer `t` of the device before gives its slot, reading what was sent. -/
theorem wp_got (c : Dev nD) (κ : Kind) {t : ℕ} (ht : t < 32) (S : Finset Ob) (hS : Above (2 * (t + 1)) S)
    {α : Type} {k : PUnit → TProg F α} {Q : α → sProp 𝕄} {h₁ : (slotV κ (par (t + 1))).view.WordExact} {h₂ : (slotV κ (par (t + 1))).view.WordExact} :
    iprop(ctx I Kn Sn ∗ RcvTok (F := F) κ c t ∗ own c S ∗ At (F := F) c (.rcv κ (par (t + 1))) (t / 2))
      ⊢ iprop(((own c S ∗ At (F := F) c (.rcv κ (par (t + 1))) (t / 2 + 1)
            ∗ slotPt c κ (par (t + 1)) fullShare (sent I κ (src κ c) t)) -∗ wpc c (k ⟨⟩) Q)
          -∗ wpc c (.op (.waitDma2 (semAt (rcvArr κ) (par (t + 1))) (slotV κ (par (t + 1))) (slotV κ (par (t + 1))) h₁ h₂) k) Q) := by
  unfold own At RcvTok
  iintro ⟨#Hctx, Hcr, ⟨%W, HO⟩, Hat, -⟩ Hk
  iapply (Rounds.wp_wait_rest_token 𝒱₀ ER (ringRd I) (c : Thread nD τ) none (κ := Kn (c, .rcv κ (par (t + 1)))) (sm := csem (.rcv κ (par (t + 1)))) (k' := N)
      (fun K => waitSpec_slot c κ _ _ h₁ h₂ K) (Set.mem_univ _) (2 * (t + 1)) (O := owed c S) (W := W) (R := t / 2) (m := 0) (T := ∅)
      (by rw [Nat.zero_add]; exact (expect_rcv I c κ (par (t + 1)) ht).symm)) $$ [Hcr HO Hat]
  · isplitr; · iapply (ctx_cell I Kn Sn c (.rcv κ (par (t + 1)))); iexact Hctx
    isplitl [Hcr]; · iexact Hcr
    isplitl [HO]; · iexact HO
    isplitr
    · iapply (ctx_mayWait I Kn Sn c (csem (.rcv κ (par (t + 1)))) (2 * (t + 1)) S (by omega) hS); iexact Hctx
    iexact Hat
  iintro ⟨HO, Hat, Hr, Hpay⟩
  ihave Hpay := (Entails.of_eq (rest_rcv I c κ ht)) $$ Hpay
  iapply Hk
  isplitl [HO]; · iexists _; iexact HO
  isplitr [Hpay]
  · isplitl [Hat] <;> iassumption
  · iexact Hpay

/-- The credit `j` that device `c` gives. -/
theorem wp_credit (c : Dev nD) (κ : Kind) {j : ℕ} (h1 : 1 ≤ j) (hj : j < 33) (n : Dev nD) (hn : n = src κ c) (S : Finset Ob)
    (hS : Ob.crd κ j ∉ S) {α : Type} {k : PUnit → TProg F α} {Q : α → sProp 𝕄} :
    iprop(ctx I Kn Sn ∗ CrdTok (F := F) κ c j ∗ own c (insert (.crd κ j) S) ∗ Fact κ c (min j 31))
      ⊢ iprop((own c S -∗ wpc c (k ⟨⟩) Q) -∗ wpc c (.op (.semSignal ((n : Dev nD) : Thread nD τ) (crdArr κ).sem (1#32).toInt) k) Q) := by
  subst hn
  unfold own CrdTok
  iintro ⟨#Hctx, Ht, ⟨%W, HO⟩, HF⟩ Hk
  iapply (Rounds.wp_signal 𝒱₀ ER (ringRd I) (c : Thread nD τ) none (dst := (src κ c : Thread nD τ)) (κ := Kn (src κ c, .crd κ))
      (r := 0) (d := j) (by
        show j ∈ (ringRd I).duties (cell (src κ c) (.crd κ)) 0
        rw [duties_cell]; exact Finset.mem_Icc.mpr ⟨h1, by omega⟩)
      ((amount_cell I (src κ c) (.crd κ) 0 j).trans rfl) (2 * j + 1) (owed c S) (owed_insert c hS)) $$ [HO Ht HF]
  · isplitr; · iapply (ctx_cell I Kn Sn (src κ c) (.crd κ)); iexact Hctx
    isplitl [HO]; · iexact HO
    isplitl [Ht]; · iexact Ht
    isplitl [HF]
    · have e : (ringRd I).payload ((src κ c : Thread nD τ), .reg (crdArr κ).sem) 0 j = Fact κ c (min j 31) := by
        refine (payload_cell I (src κ c) (.crd κ) 0 j).trans ?_
        show Fact κ (dst κ (src κ c)) (min j 31) = _; rw [dst_src]
      iapply (Entails.of_eq e.symm); iexact HF
    · iapply (ctx_reached I Kn Sn (src κ c) (.crd κ)); iexact Hctx
  iintro HO
  iapply Hk
  iexists W; iexact HO

end Steps

end Cert.Proof
-- ==== Proof.Steps.lean ====
/- The steps of a hop on one channel: giving a slot back, receiving, waiting for credit, sending. -/
module

public import proofs.«01_k».proof.Proof.Chan
public import Idealize.SL.BI.BigOpNat

@[expose] public section

set_option synthInstance.maxSize 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Steps

variable (I : Inp F) (Kn : Dev nD × Cell → ℕ) (Sn : Key → ℕ)

/-! ### Taking the next right out of a supply -/

omit [FloatOps F] in
theorem Toks_crd (κ : Kind) (c : Dev nD) {t j r w : ℕ} (h : j < 33) :
    Toks (F := F) κ c t j r w ⊢ iprop(CrdTok (F := F) κ c j ∗ Toks (F := F) κ c t (j + 1) r w) := by
  unfold Toks
  rw [bigSep_Ico_succ_bot h]
  iintro ⟨Hs, ⟨H, Hc⟩, Hr, Hw⟩
  isplitl [H]; · iexact H
  isplitl [Hs]; · iexact Hs
  isplitl [Hc]; · iexact Hc
  isplitl [Hr] <;> iassumption

omit [FloatOps F] in
theorem Toks_send (κ : Kind) (c : Dev nD) {t j r w : ℕ} (h : t < 32) :
    Toks (F := F) κ c t j r w ⊢ iprop(SendTok (F := F) κ c t ∗ Toks (F := F) κ c (t + 1) j r w) := by
  unfold Toks
  rw [bigSep_Ico_succ_bot h]
  iintro ⟨⟨H, Hs⟩, Hc, Hr, Hw⟩
  isplitl [H]; · iexact H
  isplitl [Hs]; · iexact Hs
  isplitl [Hc]; · iexact Hc
  isplitl [Hr] <;> iassumption

omit [FloatOps F] in
theorem Toks_rcv (κ : Kind) (c : Dev nD) {t j r w : ℕ} (h : r < 32) :
    Toks (F := F) κ c t j r w ⊢ iprop(RcvTok (F := F) κ c r ∗ Toks (F := F) κ c t j (r + 1) w) := by
  unfold Toks
  rw [bigSep_Ico_succ_bot h]
  iintro ⟨Hs, Hc, ⟨H, Hr⟩, Hw⟩
  isplitl [H]; · iexact H
  isplitl [Hs]; · iexact Hs
  isplitl [Hc]; · iexact Hc
  isplitl [Hr] <;> iassumption

omit [FloatOps F] in
theorem Toks_cw (κ : Kind) (c : Dev nD) {t j r w : ℕ} (h : w < 33) :
    Toks (F := F) κ c t j r w ⊢ iprop(CwTok (F := F) κ c w ∗ Toks (F := F) κ c t j r (w + 1)) := by
  unfold Toks
  rw [bigSep_Ico_succ_bot h]
  iintro ⟨Hs, Hc, Hr, ⟨H, Hw⟩⟩
  isplitl [H]; · iexact H
  isplitl [Hs]; · iexact Hs
  isplitl [Hc]; · iexact Hc
  isplitl [Hr] <;> iassumption

/-! ### Giving a slot back -/

omit [FloatOps F] in
/-- The slot that held transfer `t` goes back: transfer `t + 1` may arrive in it. -/
theorem give_back (c : Dev nD) (κ : Kind) (t : ℕ) (v : Vec F S1x128x512 .bf16) :
    iprop(Release.slotInv ES (Sn (c, κ, par t)) (c, κ, par t) (slotAny (F := F) c κ (par t))
        ∗ Release.readerAt ES (c, κ, par t) ((t + 1) / 2) ∗ slotPt c κ (par t) fullShare v
        ∗ reached ER (cell c (.rcv κ (par t))) ((t + 1) / 2))
      ⊢ (|={Set.univ}=> (Release.readerAt ES (c, κ, par t) ((t + 1) / 2 + 1) ∗ Ready κ c (t + 1)) : sProp 𝕄) := by
  unfold Ready
  rw [par_two]
  iintro ⟨Hinv, Hrd, Hs, Hr⟩
  ihave Hs := (slotPt_any c κ (par t) v) $$ Hs
  imod (Release.slot_release ES (Set.mem_univ (Sn (c, κ, par t))) (Release.slot_slot_false (ℓ := (buf κ).view.loc (c : Thread nD τ)) (slot_nonempty κ (par t))) ((t + 1) / 2)) $$ [Hinv Hrd Hs] with ⟨Hrd, Hrel⟩
  · isplitl [Hinv]; · iexact Hinv
    isplitl [Hrd] <;> iassumption
  imodintro
  isplitl [Hrd]; · iexact Hrd
  isplitl [Hr] <;> iassumption

/-- Once transfer `t` has left, its slot is given back and the sender told. -/
theorem wp_done (c : Dev nD) (κ : Kind) {t : ℕ} (ht : t < 31) (n : Dev nD) (hn : n = src κ c) (S : Finset Ob)
    (hS : Above 0 S) (hc : Ob.crd κ (t + 1) ∉ S) {α : Type} {k : Unit → TProg F α} {Q : α → sProp 𝕄} :
    iprop(ctx I Kn Sn ∗ own c (insert (.crd κ (t + 1)) S) ∗ Chan I κ c t)
      ⊢ iprop(((own c S ∗ ChanDone κ c t) -∗ wpc c (k ⟨⟩) Q) -∗ wpc c (doneP κ (par t) n >>= k) Q) := by
  have e : (doneP κ (par t) n >>= k : TProg F α) = .op (.waitDma2 (semAt (sndArr κ) (par t)) (slotV κ (par t)) (slotV κ (par t)) (slotV_words κ _) (slotV_words κ _))
    fun _ => .op (.semSignal ((n : Dev nD) : Thread nD τ) (crdArr κ).sem (1#32).toInt) k := rfl
  rw [e]
  have hA : Above 0 (insert (.crd κ (t + 1)) S) := Above_insert (by simp only [Ob.lvl]; omega) hS
  unfold Chan
  iintro ⟨#Hctx, HO, Hslot, Hcr, Hs0, Hs1, Hr1, Hr0, Hrd0, Hrd1, #HR, Hpos, Htok⟩ Hk
  iapply (wp_left I Kn Sn c κ (by omega : t < 32) _ hA) $$ [HO Hcr Hs0]
  · isplitr; · iexact Hctx
    isplitl [Hcr]; · iexact Hcr
    isplitl [HO] <;> iassumption
  iintro ⟨HO, Hs0, Hl⟩
  ihave Hslot := (slotPt_halves c κ (par t) (sent I κ c t)) $$ [Hl Hslot]
  · isplitl [Hl] <;> iassumption
  unfold At
  icases Hr0 with ⟨Hr0, #Hre⟩
  imod (give_back Sn c κ t (sent I κ c t)) $$ [Hrd0 Hslot] with ⟨Hrd0, #HR'⟩
  · isplitr; · iapply (ctx_slot I Kn Sn c κ (par t)); iexact Hctx
    isplitl [Hrd0]; · iexact Hrd0
    isplitl [Hslot]; · iexact Hslot
    iexact Hre
  have eF : iprop(Ready κ c (t + 1) ∗ Fact κ c t) ⊢ (Fact κ c (t + 1) : sProp 𝕄) := by
    unfold Fact
    iintro ⟨H, H', -⟩
    isplitl [H]; · iexact H
    iexact H'
  ihave #HF := eF $$ [HR HR']
  · isplitr; · iexact HR'
    iexact HR
  ihave Htok := (Toks_crd (F := F) κ c (by omega)) $$ Htok
  icases Htok with ⟨Hct, Htok⟩
  iapply (wp_credit I Kn Sn c κ (by omega : 1 ≤ t + 1) (by omega) n hn S hc) $$ [HO Hct]
  · isplitr; · iexact Hctx
    isplitl [Hct]; · iexact Hct
    isplitl [HO]; · iexact HO
    rw [show min (t + 1) 31 = t + 1 by omega]
    iexact HF
  iintro HO
  iapply Hk
  isplitl [HO]; · iexact HO
  unfold ChanDone At
  isplitl [Hs0]; · iexact Hs0
  isplitl [Hs1]; · iexact Hs1
  isplitl [Hr1]; · iexact Hr1
  isplitl [Hr0]
  · isplitl [Hr0]; · iexact Hr0
    iexact Hre
  isplitl [Hrd0]; · iexact Hrd0
  isplitl [Hrd1]; · iexact Hrd1
  isplitr; · iexact HF
  isplitl [Hpos] <;> iassumption

/-! ### Receiving -/

/-- Transfer `t` of the device before has arrived. -/
theorem wp_recv (c : Dev nD) (κ : Kind) {t : ℕ} (ht : t < 31) (S : Finset Ob)
    (hS : Above (2 * (t + 1)) S) {α : Type} {k : Unit → TProg F α} {Q : α → sProp 𝕄} :
    iprop(ctx I Kn Sn ∗ own c S ∗ ChanDone κ c t)
      ⊢ iprop(((own c S ∗ ChanGot κ c t (sent I κ (src κ c) t)) -∗ wpc c (k ⟨⟩) Q) -∗ wpc c (recvP κ (par (t + 1)) >>= k) Q) := by
  have e : (recvP κ (par (t + 1)) >>= k : TProg F α) = .op (.waitDma2 (semAt (rcvArr κ) (par (t + 1))) (slotV κ (par (t + 1))) (slotV κ (par (t + 1))) (slotV_words κ _) (slotV_words κ _)) k := rfl
  rw [e]
  unfold ChanDone
  iintro ⟨#Hctx, HO, Hs0, Hs1, Hr1, Hr0, Hrd0, Hrd1, #HR, Hpos, Htok⟩ Hk
  ihave Htok := (Toks_rcv (F := F) κ c (by omega)) $$ Htok
  icases Htok with ⟨Hrt, Htok⟩
  iapply (wp_got I Kn Sn c κ (by omega : t < 32) _ hS) $$ [HO Hrt Hr1]
  · isplitr; · iexact Hctx
    isplitl [Hrt]; · iexact Hrt
    isplitl [HO] <;> iassumption
  iintro ⟨HO, Hr1, Hslot⟩
  iapply Hk
  isplitl [HO]; · iexact HO
  unfold ChanGot
  isplitl [Hslot]; · iexact Hslot
  isplitl [Hs0]; · iexact Hs0
  isplitl [Hs1]; · iexact Hs1
  isplitl [Hr1]; · iexact Hr1
  isplitl [Hr0]; · iexact Hr0
  isplitl [Hrd0]; · iexact Hrd0
  isplitl [Hrd1]; · iexact Hrd1
  isplitr; · iexact HR
  isplitl [Hpos] <;> iassumption

/-! ### Credit -/

omit [FloatOps F] in
theorem credit_big {T : Finset ℕ} {t : ℕ} (hT : T ⊆ Finset.Icc 1 32) (h : t + ((Finset.Icc 1 32) \ T).card ≤ 32) (ht : 1 ≤ t) :
    ∃ j ∈ T, t ≤ j := by
  by_contra hn
  push Not at hn
  have h1 : T ⊆ Finset.Icc 1 (t - 1) := fun j hj =>
    Finset.mem_Icc.mpr ⟨(Finset.mem_Icc.mp (hT hj)).1, by have := hn j hj; omega⟩
  have h2 := Finset.card_le_card h1
  have h3 := Finset.card_sdiff_add_card_eq_card hT
  rw [Nat.card_Icc] at h2 h3
  omega

theorem expect_crd (c : Dev nD) (κ : Kind) : (ringRd I).expect (cell c (.crd κ)) 0 = 32 := by
  rw [expect_cell]; rfl

/-- The wait for the next credit: as `t + 1` have come, one of them is the `t + 1`-st or later. -/
theorem wp_cred (c : Dev nD) (κ : Kind) {t : ℕ} (ht : t < 31) (S : Finset Ob) (hS : Above (2 * (t + 1) + 1) S)
    {α : Type} {k : Unit → TProg F α} {Q : α → sProp 𝕄} :
    iprop(ctx I Kn Sn ∗ CwTok (F := F) κ c (t + 1) ∗ own c S ∗ CrdPos (F := F) κ c t)
      ⊢ iprop(((own c S ∗ CrdPos (F := F) κ c (t + 1) ∗ Ready κ (dst κ c) (t + 1)) -∗ wpc c (k ⟨⟩) Q)
          -∗ wpc c (crdP κ >>= k) Q) := by
  have e : (crdP κ >>= k : TProg F α) = .op (.semWait (crdArr κ).sem (1#32).toInt.toNat) k := rfl
  rw [e]
  unfold own CwTok CrdPos
  iintro ⟨#Hctx, Hcr, ⟨%W, HO⟩, ⟨%T, %hT, Hat, #HT⟩⟩ Hk
  iapply (Rounds.wp_wait 𝒱₀ ER (ringRd I) (c : Thread nD τ) none (κ := Kn (c, .crd κ)) (sm := csem (.crd κ)) (k' := 1)
      (fun K => wpE_semWait_eq 𝒱₀ (c : Thread nD τ) none Set.univ K) (Set.mem_univ _) (cr := Finsupp.single (2 * (t + 1) + 1) 1)
      {(csem (.crd κ), 2 * (t + 1) + 1)} (O := owed c S) (W := W) (R := 0) (m := t) (T := T)
      (Util.total_single _ _) (image_single_subset _ _ _)) $$ [Hcr HO Hat]
  · isplitr; · iapply (ctx_cell I Kn Sn c (.crd κ)); iexact Hctx
    isplitl [Hcr]; · iexact Hcr
    isplitl [HO]; · iexact HO
    isplitr
    · iapply (ctx_mayWait I Kn Sn c (csem (.crd κ)) (2 * (t + 1) + 1) S (by omega) hS); iexact Hctx
    iexact Hat
  iintro %T' ⟨%h, HO, Hat, Hp⟩
  obtain ⟨hTT, hTd, hcard⟩ := h
  rw [duties_cell] at hTd hcard
  have hcard' : t + 1 + (Finset.Icc 1 32 \ T').card ≤ 32 := hcard.trans (expect_crd I c κ).le
  have hTd' : T' ⊆ Finset.Icc 1 32 := hTd
  obtain ⟨j, hj, hjt⟩ := credit_big hTd' hcard' (by omega)
  have e1 : bigSep (T' \ T) (fun d => (ringRd I).payload (cell c (.crd κ)) 0 d) = bigSep (T' \ T) (fun j => Fact (F := F) κ (dst κ c) (min j 31)) :=
    bigSep_congr fun d _ => payload_cell I c (.crd κ) 0 d
  ihave #Hp := (Entails.of_eq e1) $$ Hp
  have e2 : iprop(bigSep T (fun j => Fact (F := F) κ (dst κ c) (min j 31)) ∗ bigSep (T' \ T) (fun j => Fact (F := F) κ (dst κ c) (min j 31)))
      ⊢ bigSep T' (fun j => Fact (F := F) κ (dst κ c) (min j 31))  :=
    Entails.of_eq (bigSep_sdiff_split hTT).symm
  ihave #HA := e2 $$ [HT Hp]
  · isplitr; · iexact HT
    iexact Hp
  have e3 : bigSep T' (fun j => Fact (F := F) κ (dst κ c) (min j 31)) ⊢ Fact (F := F) κ (dst κ c) (min j 31) := bigSep_elim hj
  have e4 : Fact (F := F) κ (dst κ c) (min j 31) ⊢ Fact (F := F) κ (dst κ c) (t + 1) := by
    have := Fact_mono (F := F) κ (dst κ c) (by omega : 1 ≤ t + 1) (min j 31 - (t + 1))
    rwa [show t + 1 + (min j 31 - (t + 1)) = min j 31 by omega] at this
  ihave HF := (e3.trans e4) $$ HA
  iapply Hk
  isplitl [HO]; · iexists _; iexact HO
  isplitl [Hat]
  · iexists T'
    isplitr; · ipureintro; exact hTd'
    isplitl [Hat]; · iexact Hat
    iexact HA
  · unfold Fact
    icases HF with ⟨HF, -⟩
    iexact HF

/-! ### Sending -/

omit [FloatOps F] in
/-- A slot held whole is held in two halves. -/
theorem slotPt_split (c : Dev nD) (κ : Kind) (s : Fin 2) (v : Vec F S1x128x512 .bf16) :
    slotPt (F := F) c κ s fullShare v ⊢ iprop(∃ f : Buf (Elt F) ((buf κ).view.loc (c : Thread nD τ)),
      ((buf κ).view.loc (c : Thread nD τ) ↦[slotSet κ s]{(fullShare : PosShare TreeShare).left} f)
      ∗ ((buf κ).view.loc (c : Thread nD τ) ↦[slotSet κ s]{(fullShare : PosShare TreeShare).right} f) ∗ ⌜slotRead κ s f = v⌝) := by
  unfold slotPt
  iintro ⟨%f, H, %h⟩
  ihave H := (pointsTo_share (PosShare.mem_left_op_right (fullShare : PosShare TreeShare))).1 $$ H
  icases H with ⟨Hl, Hr⟩
  iexists f
  isplitl [Hl]; · iexact Hl
  isplitl [Hr]; · iexact Hr
  ipureintro; exact h

omit [FloatOps F] in
theorem view_slot (c : Dev nD) (κ : Kind) (s : Fin 2) (q : PosShare TreeShare) (f : (slotV κ s).view.ty.Contents (Elt F))
    {v : Vec F S1x128x512 .bf16} (h : slotRead κ s f = v) :
    ((slotV κ s).view.loc (c : Thread nD τ) ↦[(slotV κ s).view.set]{q} f) ⊢ (slotPt c κ s q v : sProp 𝕄) := by
  rw [slotV_set]
  unfold slotPt
  iintro H
  iexists f
  isplitl [H]; · iexact H
  ipureintro; exact h

theorem sendP_eq (κ : Kind) (s s' : Fin 2) (h : 1 - s = s') (n : Dev nD) {α : Type} (k : Unit → TProg F α) :
    (sendP κ s n >>= k : TProg F α)
      = .op (.enqueueDma (slotV κ s) (.remote (Dev.tc n) (slotV κ s') (.dma (semAt (sndArr κ) s)))
          (.dma (semAt (rcvArr κ) s')) (slotV_words κ s) (slotV_words κ s') ⟨⟨rfl, Or.inl rfl⟩, trivial⟩) k := by
  subst h; rfl

/-- Transfer `t` is started: half of the slot is lent to it. -/
theorem wp_send (c : Dev nD) (κ : Kind) {t : ℕ} (ht : t < 32) (n : Dev nD) (hn : n = dst κ c) (S : Finset Ob)
    (hS : Ob.send κ t ∉ S) {α : Type} {k : Unit → TProg F α} {Q : α → sProp 𝕄} :
    iprop(ctx I Kn Sn ∗ own c (insert (.send κ t) S) ∗ SendTok (F := F) κ c t ∗ slotPt c κ (par t) fullShare (sent I κ c t)
        ∗ reached ER (cell c (.snd κ (par t))) (t / 2) ∗ Ready κ (dst κ c) t)
      ⊢ iprop(((own c S ∗ slotPt c κ (par t) (fullShare : PosShare TreeShare).right (sent I κ c t)
            ∗ cred (tallyAt (cell c (.snd κ (par t))) 0 N)) -∗ wpc c (k ⟨⟩) Q)
          -∗ wpc c (sendP κ (par t) n >>= k) Q) := by
  subst hn
  rw [sendP_eq κ (par t) (par (t + 1)) (par_sub t)]
  unfold own SendTok Ready
  iintro ⟨#Hctx, ⟨%W, HO⟩, ⟨Ht1, Ht2, Hw⟩, Hslot, #Hre, #HR, #Hrel⟩ Hk
  ihave Hslot := (slotPt_split c κ (par t) (sent I κ c t)) $$ Hslot
  icases Hslot with ⟨%fs, Hl, Hr, %hfs⟩
  imod (Release.slot_take ES (Set.mem_univ (Sn (dst κ c, κ, par (t + 1)))) (t / 2 + 1)) $$ [Hw] with Hd
  · isplitr; · iapply (ctx_slot I Kn Sn (dst κ c) κ (par (t + 1))); iexact Hctx
    isplitr; · iexact Hrel
    iexact Hw
  unfold slotAny Release.slot
  icases Hd with ⟨%fd, Hd⟩
  have hp1 := (view_slot c κ (par t) (fullShare : PosShare TreeShare).left fs hfs).trans
    (Entails.of_eq ((payload_cell I c (.snd κ (par t)) (t / 2) 0).trans (payC_snd I c κ t 0)).symm)
  have hp2 := (view_slot (dst κ c) κ (par (t + 1)) fullShare _ ((slotRead_send κ (par t) (par (t + 1)) fs fd).trans hfs)).trans
    (Entails.of_eq ((payload_cell I (dst κ c) (.rcv κ (par (t + 1))) (t / 2) 0).trans
      ((payC_rcv I (dst κ c) κ t 0).trans (by rw [src_dst]))).symm)
  iapply (Rounds.wp_send_pointsTo 𝒱₀ ER (ringRd I) (c : Thread nD τ) none (c' := (dst κ c : Thread nD τ))
      (κ₁ := Kn (c, .snd κ (par t))) (κ₂ := Kn (dst κ c, .rcv κ (par (t + 1)))) (r₁ := t / 2) (r₂ := t / 2) (d₁ := 0) (d₂ := 0)
      (src := slotV κ (par t)) (dst := slotV κ (par (t + 1))) (q := (fullShare : PosShare TreeShare).left)
      (sS := csem (.snd κ (par t))) (sem := csem (.rcv κ (par (t + 1))))
      (fd := fd) (fs := fs)
      (by rw [duties_cell, dutiesC_snd ht]; exact Finset.mem_singleton_self 0)
      (by rw [duties_cell, dutiesC_rcv ht]; exact Finset.mem_singleton_self 0)
      (2 * (t + 1)) 0 N (N_eq κ (par (t + 1))) (amount_cell I c (.snd κ (par t)) _ _) (amount_cell I (dst κ c) (.rcv κ (par (t + 1))) _ _)
      (owed c S) (owed_insert c hS) hp1 hp2) $$ [HO Ht1 Ht2 Hl Hd]
  · isplitr; · iapply (ctx_cell I Kn Sn c (.snd κ (par t))); iexact Hctx
    isplitr; · iapply (ctx_cell I Kn Sn (dst κ c) (.rcv κ (par (t + 1)))); iexact Hctx
    isplitl [Hl]; · rw [slotV_set]; iexact Hl
    isplitl [Hd]; · rw [slotV_set]; iexact Hd
    isplitl [HO]; · iexact HO
    isplitl [Ht1]; · iexact Ht1
    isplitr; · iexact Hre
    isplitl [Ht2]; · iexact Ht2
    iexact HR
  iintro ⟨Hcr, HO⟩
  iapply Hk
  isplitl [HO]; · iexists _; iexact HO
  isplitl [Hr]
  · unfold slotPt
    iexists fs
    isplitl [Hr]; · iexact Hr
    ipureintro; exact hfs
  · iexact Hcr

/-- Credit, then the next transfer. -/
theorem wp_forward (c : Dev nD) (κ : Kind) {t : ℕ} (ht : t < 31) (n : Dev nD) (hn : n = dst κ c) (S : Finset Ob)
    (hS : Ob.send κ (t + 1) ∉ S) (hA : Above (2 * (t + 1) + 1) S) {α : Type} {k : Unit → TProg F α} {Q : α → sProp 𝕄} :
    iprop(ctx I Kn Sn ∗ own c (insert (.send κ (t + 1)) S) ∗ ChanGot κ c t (sent I κ c (t + 1)))
      ⊢ iprop(((own c S ∗ Chan I κ c (t + 1)) -∗ wpc c (k ⟨⟩) Q) -∗ wpc c (forwardP κ (par (t + 1)) n >>= k) Q) := by
  have e : (forwardP κ (par (t + 1)) n >>= k : TProg F α) = crdP κ >>= fun _ => (sendP κ (par (t + 1)) n >>= k) := rfl
  rw [e]
  have hA' : Above (2 * (t + 1) + 1) (insert (.send κ (t + 1)) S) := Above_insert (by simp only [Ob.lvl]; omega) hA
  unfold ChanGot
  iintro ⟨#Hctx, HO, Hslot, Hs0, Hs1, Hr1, Hr0, Hrd0, Hrd1, #HR, Hpos, Htok⟩ Hk
  ihave Htok := (Toks_cw (F := F) κ c (by omega)) $$ Htok
  icases Htok with ⟨Hcw, Htok⟩
  ihave Htok := (Toks_send (F := F) κ c (by omega)) $$ Htok
  icases Htok with ⟨Hst, Htok⟩
  iapply (wp_cred I Kn Sn c κ ht _ hA') $$ [Hcw HO Hpos]
  · isplitr; · iexact Hctx
    isplitl [Hcw]; · iexact Hcw
    isplitl [HO] <;> iassumption
  iintro ⟨HO, Hpos, #HRd⟩
  unfold At
  icases Hs1 with ⟨Hs1, #Hs1r⟩
  iapply (wp_send I Kn Sn c κ (by omega : t + 1 < 32) n hn S hS) $$ [HO Hst Hslot]
  · isplitr; · iexact Hctx
    isplitl [HO]; · iexact HO
    isplitl [Hst]; · iexact Hst
    isplitl [Hslot]; · iexact Hslot
    isplitr; · iexact Hs1r
    iexact HRd
  iintro ⟨HO, Hslot, Hcr⟩
  iapply Hk
  isplitl [HO]; · iexact HO
  unfold Chan At
  rw [show t + 1 + 1 = t + 2 from rfl, par_two, show (t + 2) / 2 = t / 2 + 1 by omega]
  isplitl [Hslot]; · iexact Hslot
  isplitl [Hcr]; · iexact Hcr
  isplitl [Hs1]
  · isplitl [Hs1]; · iexact Hs1
    iexact Hs1r
  isplitl [Hs0]; · iexact Hs0
  isplitl [Hr0]; · iexact Hr0
  isplitl [Hr1]; · iexact Hr1
  isplitl [Hrd1]; · iexact Hrd1
  isplitl [Hrd0]; · iexact Hrd0
  isplitr; · iexact HR
  isplitl [Hpos] <;> iassumption

end Steps

end Cert.Proof
-- ==== Proof.Ends.lean ====
/- The first transfer of a channel, and what ends it after the last one. -/
module

public import proofs.«01_k».proof.Proof.Steps

@[expose] public section

set_option synthInstance.maxSize 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Ends

variable (I : Inp F) (Kn : Dev nD × Cell → ℕ) (Sn : Key → ℕ)

/-! ### The first transfer -/

/-- The channel before its first transfer: nothing sent, slot 1 given away, slot 0 the device's own. -/
def ChanInit (κ : Kind) (c : Dev nD) : sProp 𝕄 :=
  iprop(At (F := F) c (.snd κ 0) 0 ∗ At (F := F) c (.snd κ 1) 0 ∗ At (F := F) c (.rcv κ 0) 0 ∗ At (F := F) c (.rcv κ 1) 0
    ∗ Release.readerAt ES (c, κ, 0) 0 ∗ Release.readerAt ES (c, κ, 1) 1 ∗ Ready κ c 0 ∗ CrdPos (F := F) κ c 0
    ∗ Toks (F := F) κ c 0 1 0 1)

/-- The first transfer is started. -/
theorem wp_first (c : Dev nD) (κ : Kind) (n : Dev nD) (hn : n = dst κ c) (S : Finset Ob)
    (hS : Ob.send κ 0 ∉ S) {α : Type} {k : Unit → TProg F α} {Q : α → sProp 𝕄} :
    iprop(ctx I Kn Sn ∗ own c (insert (.send κ 0) S) ∗ ChanInit (F := F) κ c ∗ slotPt c κ 0 fullShare (sent I κ c 0) ∗ Ready κ (dst κ c) 0)
      ⊢ iprop(((own c S ∗ Chan I κ c 0) -∗ wpc c (k ⟨⟩) Q) -∗ wpc c (sendP κ 0 n >>= k) Q) := by
  unfold ChanInit
  iintro ⟨#Hctx, HO, ⟨Hs0, Hs1, Hr0, Hr1, Hrd0, Hrd1, #HR, Hpos, Htok⟩, Hslot, #HRd⟩ Hk
  ihave Htok := (Toks_send (F := F) κ c (by omega)) $$ Htok
  icases Htok with ⟨Hst, Htok⟩
  unfold At
  icases Hs0 with ⟨Hs0, #Hs0r⟩
  iapply (wp_send I Kn Sn c κ (by omega : 0 < 32) n hn S hS) $$ [HO Hst Hslot]
  · isplitr; · iexact Hctx
    isplitl [HO]; · iexact HO
    isplitl [Hst]; · iexact Hst
    isplitl [Hslot]; · iexact Hslot
    isplitr; · iexact Hs0r
    iexact HRd
  iintro ⟨HO, Hslot, Hcr⟩
  iapply Hk
  isplitl [HO]; · iexact HO
  unfold Chan At
  isplitl [Hslot]; · iexact Hslot
  isplitl [Hcr]; · iexact Hcr
  isplitl [Hs0]
  · isplitl [Hs0]; · iexact Hs0
    iexact Hs0r
  isplitl [Hs1]; · iexact Hs1
  isplitl [Hr1]; · iexact Hr1
  isplitl [Hr0]; · iexact Hr0
  isplitl [Hrd0]; · iexact Hrd0
  isplitl [Hrd1]; · iexact Hrd1
  isplitr
  · unfold Fact
    isplitr <;> iexact HR
  isplitl [Hpos] <;> iassumption

omit [FloatOps F] in
/-- Slot 1 goes to the device before, to be written by its first transfer. -/
theorem give_first (c : Dev nD) (κ : Kind) :
    iprop(Release.slotInv ES (Sn (c, κ, 1)) (c, κ, 1) (slotAny (F := F) c κ 1)
        ∗ Release.readerAt ES (c, κ, 1) 0 ∗ slotAny c κ 1 ∗ reached ER (cell c (.rcv κ 1)) 0)
      ⊢ (|={Set.univ}=> (Release.readerAt ES (c, κ, 1) 1 ∗ Ready κ c 0) : sProp 𝕄) := by
  iintro ⟨Hinv, Hrd, Hs, Hr⟩
  imod (Release.slot_release ES (Set.mem_univ (Sn (c, κ, 1)))
    (Release.slot_slot_false (ℓ := (buf κ).view.loc (c : Thread nD τ)) (slot_nonempty κ 1)) 0) $$ [Hinv Hrd Hs] with ⟨Hrd, Hrel⟩
  · isplitl [Hinv]; · iexact Hinv
    isplitl [Hrd] <;> iassumption
  imodintro
  isplitl [Hrd]; · iexact Hrd
  unfold Ready
  isplitl [Hr]; · iexact Hr
  iexact Hrel

/-! ### The end -/

/-- The last transfer has left: slot 1 is the device's own again. -/
def ChanLeft (κ : Kind) (c : Dev nD) : sProp 𝕄 :=
  iprop(slotAny (F := F) c κ 1 ∗ At (F := F) c (.snd κ 0) 16 ∗ At (F := F) c (.snd κ 1) 16 ∗ At (F := F) c (.rcv κ 0) 15
    ∗ At (F := F) c (.rcv κ 1) 16 ∗ CrdPos (F := F) κ c 31 ∗ RcvTok (F := F) κ c 31 ∗ CwTok (F := F) κ c 32)

/-- The last transfer of the device before has arrived, too: slot 0 reads `v`. -/
def ChanHere (κ : Kind) (c : Dev nD) (v : Vec F S1x128x512 .bf16) : sProp 𝕄 :=
  iprop(slotPt c κ 0 fullShare v ∗ slotAny (F := F) c κ 1 ∗ At (F := F) c (.snd κ 0) 16 ∗ At (F := F) c (.snd κ 1) 16
    ∗ At (F := F) c (.rcv κ 0) 16 ∗ At (F := F) c (.rcv κ 1) 16 ∗ CrdPos (F := F) κ c 31 ∗ CwTok (F := F) κ c 32)

/-- All of the channel's semaphores have counted all they count. -/
def ChanOver (κ : Kind) (c : Dev nD) (v : Vec F S1x128x512 .bf16) : sProp 𝕄 :=
  iprop(slotPt c κ 0 fullShare v ∗ slotAny (F := F) c κ 1 ∗ At (F := F) c (.snd κ 0) 16 ∗ At (F := F) c (.snd κ 1) 16
    ∗ At (F := F) c (.rcv κ 0) 16 ∗ At (F := F) c (.rcv κ 1) 16 ∗ At (F := F) c (.crd κ) 1)

theorem wp_doneLast (c : Dev nD) (κ : Kind) (n : Dev nD) (hn : n = src κ c) (S : Finset Ob)
    (hS : Above 0 S) (hc : Ob.crd κ 32 ∉ S) {α : Type} {k : Unit → TProg F α} {Q : α → sProp 𝕄} :
    iprop(ctx I Kn Sn ∗ own c (insert (.crd κ 32) S) ∗ Chan I κ c 31)
      ⊢ iprop(((own c S ∗ ChanLeft (F := F) κ c) -∗ wpc c (k ⟨⟩) Q) -∗ wpc c (doneP κ 1 n >>= k) Q) := by
  have e : (doneP κ 1 n >>= k : TProg F α) = .op (.waitDma2 (semAt (sndArr κ) (par 31)) (slotV κ (par 31)) (slotV κ (par 31)) (slotV_words κ _) (slotV_words κ _))
    fun _ => .op (.semSignal ((n : Dev nD) : Thread nD τ) (crdArr κ).sem (1#32).toInt) k := rfl
  rw [e]
  have hA : Above 0 (insert (.crd κ 32) S) := Above_insert (by simp only [Ob.lvl]; omega) hS
  unfold Chan
  iintro ⟨#Hctx, HO, Hslot, Hcr, Hs0, Hs1, Hr1, Hr0, -, -, #HR, Hpos, Htok⟩ Hk
  iapply (wp_left I Kn Sn c κ (by omega : 31 < 32) _ hA) $$ [HO Hcr Hs0]
  · isplitr; · iexact Hctx
    isplitl [Hcr]; · iexact Hcr
    isplitl [HO]; · iexact HO
    first | iexact Hs0 | iexact Hr0
  iintro ⟨HO, Hs0, Hl⟩
  ihave Hslot := (slotPt_halves c κ (par 31) (sent I κ c 31)) $$ [Hl Hslot]
  · isplitl [Hl]; · iexact Hl
    iexact Hslot
  ihave Hslot := (slotPt_any c κ (par 31) _) $$ Hslot
  ihave Htok := (Toks_crd (F := F) κ c (by omega)) $$ Htok
  icases Htok with ⟨Hct, Htok⟩
  ihave Htok := (Toks_rcv (F := F) κ c (by omega)) $$ Htok
  icases Htok with ⟨Hrt, Htok⟩
  ihave Htok := (Toks_cw (F := F) κ c (by omega)) $$ Htok
  icases Htok with ⟨Hcw, -⟩
  iapply (wp_credit I Kn Sn c κ (by omega : 1 ≤ 32) (by omega) n hn S hc) $$ [HO Hct]
  · isplitr; · iexact Hctx
    isplitl [Hct]; · iexact Hct
    isplitl [HO]; · iexact HO
    iexact HR
  iintro HO
  iapply Hk
  isplitl [HO]; · iexact HO
  unfold ChanLeft
  isplitl [Hslot]; · iexact Hslot
  isplitl [Hs1]; · iexact Hs1
  isplitl [Hs0]; · iexact Hs0
  isplitl [Hr1]; · iexact Hr1
  isplitl [Hr0]; · iexact Hr0
  isplitl [Hpos]; · iexact Hpos
  isplitl [Hrt]; · iexact Hrt
  iexact Hcw

theorem wp_recvLast (c : Dev nD) (κ : Kind) {α : Type} {k : Unit → TProg F α} {Q : α → sProp 𝕄} :
    iprop(ctx I Kn Sn ∗ own c ∅ ∗ ChanLeft (F := F) κ c)
      ⊢ iprop(((own c ∅ ∗ ChanHere κ c (sent I κ (src κ c) 31)) -∗ wpc c (k ⟨⟩) Q) -∗ wpc c (recvP κ 0 >>= k) Q) := by
  have e : (recvP κ 0 >>= k : TProg F α) = .op (.waitDma2 (semAt (rcvArr κ) (par (31 + 1))) (slotV κ (par (31 + 1))) (slotV κ (par (31 + 1))) (slotV_words κ _) (slotV_words κ _)) k := rfl
  rw [e]
  unfold ChanLeft
  iintro ⟨#Hctx, HO, Hslot, Hs0, Hs1, Hr0, Hr1, Hpos, Hrt, Hcw⟩ Hk
  iapply (wp_got I Kn Sn c κ (by omega : 31 < 32) ∅ (fun o ho => absurd ho (Finset.notMem_empty o))) $$ [HO Hrt Hr0]
  · isplitr; · iexact Hctx
    isplitl [Hrt]; · iexact Hrt
    isplitl [HO]; · iexact HO
    first | iexact Hs0 | iexact Hr0
  iintro ⟨HO, Hr0, Hslot0⟩
  iapply Hk
  isplitl [HO]; · iexact HO
  unfold ChanHere
  isplitl [Hslot0]; · iexact Hslot0
  isplitl [Hslot]; · iexact Hslot
  isplitl [Hs0]; · iexact Hs0
  isplitl [Hs1]; · iexact Hs1
  isplitl [Hr0]; · iexact Hr0
  isplitl [Hr1]; · iexact Hr1
  isplitl [Hpos]; · iexact Hpos
  iexact Hcw

theorem wp_crdLast (c : Dev nD) (κ : Kind) (v : Vec F S1x128x512 .bf16) {α : Type} {k : Unit → TProg F α} {Q : α → sProp 𝕄} :
    iprop(ctx I Kn Sn ∗ own c ∅ ∗ ChanHere κ c v)
      ⊢ iprop(((own c ∅ ∗ ChanOver κ c v) -∗ wpc c (k ⟨⟩) Q) -∗ wpc c (crdP κ >>= k) Q) := by
  have e : (crdP κ >>= k : TProg F α) = .op (.semWait (crdArr κ).sem (1#32).toInt.toNat) k := rfl
  rw [e]
  unfold ChanHere own CwTok CrdPos
  iintro ⟨#Hctx, ⟨%W, HO⟩, Hslot0, Hslot, Hs0, Hs1, Hr0, Hr1, ⟨%T, -, Hat, -⟩, Hcr⟩ Hk
  iapply (Rounds.wp_wait_rest_token 𝒱₀ ER (ringRd I) (c : Thread nD τ) none (κ := Kn (c, .crd κ)) (sm := csem (.crd κ)) (k' := 1)
      (fun K => wpE_semWait_eq 𝒱₀ (c : Thread nD τ) none Set.univ K) (Set.mem_univ _) 65 (O := owed c ∅) (W := W) (R := 0) (m := 31) (T := T)
      (expect_crd I c κ).symm) $$ [Hcr HO Hat]
  · isplitr; · iapply (ctx_cell I Kn Sn c (.crd κ)); iexact Hctx
    isplitl [Hcr]; · iexact Hcr
    isplitl [HO]; · iexact HO
    isplitr
    · iapply (ctx_mayWait I Kn Sn c (csem (.crd κ)) 65 ∅ (by omega) (fun o ho => absurd ho (Finset.notMem_empty o))); iexact Hctx
    iexact Hat
  iintro ⟨HO, Hat, Hr, -⟩
  iapply Hk
  isplitl [HO]; · iexists _; iexact HO
  unfold ChanOver At
  isplitl [Hslot0]; · iexact Hslot0
  isplitl [Hslot]; · iexact Hslot
  isplitl [Hs0]; · iexact Hs0
  isplitl [Hs1]; · iexact Hs1
  isplitl [Hr0]; · iexact Hr0
  isplitl [Hr1]; · iexact Hr1
  isplitl [Hat]; · iexact Hat
  iexact Hr

end Ends

end Cert.Proof
-- ==== Proof.Comp.lean ====
/- One device's attention on the rows in a slot, and the loads and stores of slots: what the steps between
   the transfers compute. -/
module

public import proofs.«01_k».proof.Proof.Ends
public import Idealize.ShloMosaic.Lib.Writes

@[expose] public section

set_option synthInstance.maxSize 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ### All heads' columns -/

omit [FloatOps F] in
theorem head_emb (h : Fin 8) (x : (headRect h).shape.Idx) :
    (((headRect h).emb x) 0).val = (x 0).val ∧ (((headRect h).emb x) 1).val = 64 * h.val + (x 1).val := by
  constructor
  · show 0 + 1 * (x 0).val = _; omega
  · show 64 * h.val + 1 * (x 1).val = _; omega

omit [FloatOps F] in
theorem head_cover (y : S128x512.Idx) :
    y ∈ (headRect ⟨(y 1).val / 64, Nat.div_lt_of_lt_mul (show (y 1).val < 64 * 8 from (y 1).isLt)⟩).set := by
  refine (headRect _).mem_set.mpr ?_
  intro a
  match a with
  | 0 => exact ⟨(y 0).val, (y 0).isLt, show (y 0).val = 0 + 1 * (y 0).val by omega⟩
  | 1 => exact ⟨(y 1).val % 64, Nat.mod_lt _ (by decide), show (y 1).val = 64 * ((y 1).val / 64) + 1 * ((y 1).val % 64) by omega⟩

/-- Head `h`, written at its columns. -/
def headPc (q k v : FVec F S128x512 .bf16) (h : Fin 8) : View.Piece (Elt F) S128x512 .bf16 := ⟨headRect h, headV h q k v⟩

theorem headPc_val (q k v : FVec F S128x512 .bf16) (h : Fin 8) (x : (headRect h).shape.Idx) :
    (headPc q k v h).2 x = headsV q k v ((headRect h).emb x) := by
  obtain ⟨e0, e1⟩ := head_emb h x
  have hx : (x 1).val < 64 := (x 1).isLt
  unfold headsV
  have eh : (⟨(((headRect h).emb x) 1).val / 64, Nat.div_lt_of_lt_mul (show (((headRect h).emb x) 1).val < 64 * 8 from (((headRect h).emb x) 1).isLt)⟩ : Fin 8) = h :=
    Fin.ext (by show _ / 64 = _; rw [e1]; omega)
  rw [eh]
  show headV h q k v x = _
  congr 1
  funext a
  match a with
  | 0 => exact Fin.ext e0.symm
  | 1 => exact Fin.ext (by show (x 1).val = _ % 64; rw [e1]; omega)

/-- The eight writes leave all heads side by side. -/
theorem heads_written (q k v : FVec F S128x512 .bf16) (f : oM.view.ty.Contents (Elt F)) :
    oM.view.writes (Elt F) f (([7, 6, 5, 4, 3, 2, 1, 0] : List (Fin 8)).map (headPc q k v)) = headsV q k v := by
  funext y
  refine (congrFun (View.read_whole cc0_scratch4 (oM.view.writes (Elt F) f _)).symm y).trans
    (View.read_writes_apply_of_pieces (v := oM.view) (Val := Elt F) (f := f) (headsV q k v) _ ?_ y ?_)
  · intro p hp x
    obtain ⟨h, -, rfl⟩ := List.mem_map.mp hp
    exact headPc_val q k v h x
  · refine ⟨headPc q k v _, List.mem_map.mpr ⟨_, ?_, rfl⟩, head_cover y⟩
    generalize (⟨(y 1).val / 64, _⟩ : Fin 8) = h
    revert h; decide

/-! ### The weights' staging buffers and the heads' buffer -/

section Steps

variable (I : Inp F)

/-- The staged weights, which the body only reads. -/
def Wts (c : Dev nD) : sProp 𝕄 :=
  iprop(((c : Thread nD τ).loc cc0_stg1_0 ↦{fullShare} I.wq c) ∗ ((c : Thread nD τ).loc cc0_stg2_0 ↦{fullShare} I.wk c)
    ∗ ((c : Thread nD τ).loc cc0_stg3_0 ↦{fullShare} I.wv c) ∗ ((c : Thread nD τ).loc cc0_stg4_0 ↦{fullShare} I.wo c))

/-- The heads' buffer, holding anything. -/
def oAny (c : Dev nD) : sProp 𝕄 :=
  iprop(∃ f : Buf (Elt F) ((c : Thread nD τ).loc cc0_scratch4), (c : Thread nD τ).loc cc0_scratch4 ↦{fullShare} f)

omit [FloatOps F] in
theorem hz2 : (![0, 0] : Fin 2 → Nat) = fun _ => 0 := funext fun a => by fin_cases a <;> rfl

/-- Reading a slot. -/
theorem wp_slot (c : Dev nD) (κ : Kind) (s : Fin 2) (q : PosShare TreeShare) (v : Vec F S1x128x512 .bf16)
    {α : Type} {k : Vec F S1x128x512 .bf16 → TProg F α} {Q : α → sProp 𝕄} :
    (slotPt c κ s q v) ⊢ iprop((slotPt c κ s q v -∗ wpc c (k v) Q) -∗ wpc c (loadP κ s >>= k) Q) := by
  have e : (loadP κ s >>= k : TProg F α) = .op (.load (buf κ) (slotRect s).toLoadRect (View.loadsAt_vmem h_S1x128x512)) k := rfl
  rw [e]
  unfold slotPt
  iintro ⟨%f, H, %hf⟩ Hk
  iapply (wp_load_rect 𝒱₀ (c : Thread nD τ) none Set.univ (m := buf κ) (r := slotRect s) (S := slotSet κ s) (fun i hi => hi)) $$ H
  iintro H
  have hf' : ((buf κ).access (slotRect s)).read (Elt F) f = v := hf
  rw [hf']
  iapply Hk
  iexists f
  isplitl [H]; · iexact H
  ipureintro; exact hf

/-- Writing a slot. -/
theorem wp_put (c : Dev nD) (κ : Kind) (s : Fin 2) (v w : Vec F S1x128x512 .bf16)
    {α : Type} {k : Unit → TProg F α} {Q : α → sProp 𝕄} :
    (slotPt c κ s fullShare v) ⊢ iprop((slotPt c κ s fullShare w -∗ wpc c (k ⟨⟩) Q) -∗ wpc c (storeP κ s w >>= k) Q) := by
  have e : (storeP κ s w >>= k : TProg F α) = .op (.store (buf κ) (slotRect s) w Finset.univ
    (View.stores_vmem h_S1x128x512 ((buf_whole κ).storeExact_slice rfl _ (slot_packed s)) (fun _ => rfl)) (.inl rfl)) k := rfl
  rw [e]
  unfold slotPt
  iintro ⟨%f, H, %hf⟩ Hk
  iapply (wp_store 𝒱₀ (c : Thread nD τ) none Set.univ (m := buf κ) (r := slotRect s) (Mk := Finset.univ) (S := slotSet κ s) (fun i hi => hi)) $$ H
  iintro H
  iapply Hk
  iexists (((buf κ).access (slotRect s)).write (Elt F) f w Finset.univ)
  isplitl [H]; · iexact H
  ipureintro; exact slotRead_store κ s f w

/-- Reading a weight. -/
theorem wp_weight (c : Dev nD) (w : Memref sig .tc .vmem S512x512 .bf16) (f : w.view.ty.Contents (Elt F)) (v : Vec F S512x512 .bf16)
    (h : w.view.readAt (Elt F) (Rect.unit (s := S512x512) ![0, 0] S512x512.size inb_S512x512_S512x512_0_0).toLoadRect f = v)
    {α : Type} {k : Vec F S512x512 .bf16 → TProg F α} {Q : α → sProp 𝕄} :
    (w.view.loc (c : Thread nD τ) ↦{fullShare} f)
      ⊢ iprop(((w.view.loc (c : Thread nD τ) ↦{fullShare} f) -∗ wpc c (k v) Q) -∗ wpc c (loadW w >>= k) Q) := by
  have e : (loadW w >>= k : TProg F α) = .op (.load w (Rect.unit (s := S512x512) ![0, 0] S512x512.size inb_S512x512_S512x512_0_0).toLoadRect
    (View.loadsAt_vmem h_S512x512)) k := rfl
  rw [e]
  iintro H Hk
  iapply (wp_load 𝒱₀ (c : Thread nD τ) none Set.univ (m := w) (Finset.subset_univ _)) $$ H
  iintro H
  rw [h]
  iapply Hk; iexact H

/-- One head is computed and written. -/
theorem wp_head (c : Dev nD) (h : Fin 8) (q k v : FVec F S128x512 .bf16) (f : oM.view.ty.Contents (Elt F)) (L : List (View.Piece (Elt F) S128x512 .bf16))
    {α : Type} {kk : Unit → TProg F α} {Q : α → sProp 𝕄} :
    (oM.view.loc (c : Thread nD τ) ↦{fullShare} (oM.view.writes (Elt F) f L))
      ⊢ iprop(((oM.view.loc (c : Thread nD τ) ↦{fullShare} (oM.view.writes (Elt F) f (headPc q k v h :: L))) -∗ wpc c (kk ⟨⟩) Q)
        -∗ wpc c (headP h q k v >>= kk) Q) := by
  have e : (headP h q k v >>= kk : TProg F α) = .op (.load oM (headRect h).toLoadRect (View.loadsAt_vmem h_S128x64)) fun _ =>
      .op (.store oM (headRect h) (headV h q k v) Finset.univ
        (View.stores_vmem h_S128x64 ((Memref.isWhole_whole cc0_scratch4).storeExact_slice rfl _ (head_packed h)) (fun _ => rfl))
        (.inl rfl)) kk := rfl
  rw [e]
  iintro H Hk
  iapply (wp_load 𝒱₀ (c : Thread nD τ) none Set.univ (m := oM) (Finset.subset_univ _)) $$ H
  iintro H
  iapply (wp_store 𝒱₀ (c : Thread nD τ) none Set.univ (m := oM) (r := headRect h) (Mk := Finset.univ) (Finset.subset_univ _)) $$ H
  iintro H
  iapply Hk
  iexact H

/-- The device's attention on the rows in a slot. -/
theorem wp_attn (c : Dev nD) (κ : Kind) (s : Fin 2) (sh : PosShare TreeShare) (x : Vec F S1x128x512 .bf16)
    {α : Type} {k : Vec F S128x512 .bf16 × Vec F S512x512 .bf16 → TProg F α} {Q : α → sProp 𝕄} :
    iprop(slotPt c κ s sh x ∗ Wts I c ∗ oAny (F := F) c)
      ⊢ iprop(((slotPt c κ s sh x ∗ Wts I c ∗ oAny (F := F) c) -∗ wpc c (k (attnV I c x, I.wo c)) Q) -∗ wpc c (attnP κ s >>= k) Q) := by
  unfold Wts oAny attnP
  simp only [bind_assoc]
  iintro ⟨Hs, ⟨Hq, Hk', Hv, Ho⟩, ⟨%f, Hf⟩⟩ Hk
  iapply (wp_slot c κ s sh x) $$ Hs
  iintro Hs
  iapply (wp_weight c wqM (I.wq c) (I.wq c) (Memref.readAt_unit_zero (Elt F) cc0_stg1_0 hz2 _ _)) $$ Hq
  iintro Hq
  iapply (wp_weight c wkM (I.wk c) (I.wk c) (Memref.readAt_unit_zero (Elt F) cc0_stg2_0 hz2 _ _)) $$ Hk'
  iintro Hk'
  iapply (wp_weight c wvM (I.wv c) (I.wv c) (Memref.readAt_unit_zero (Elt F) cc0_stg3_0 hz2 _ _)) $$ Hv
  iintro Hv
  have h0 : ((c : Thread nD τ).loc cc0_scratch4 ↦{fullShare} f)
      ⊢ (oM.view.loc (c : Thread nD τ) ↦{fullShare} (oM.view.writes (Elt F) f []) : sProp 𝕄) := Entails.of_eq rfl
  ihave Hf := h0 $$ Hf
  iapply (wp_head c 0 _ _ _ f []) $$ Hf
  iintro Hf
  iapply (wp_head c 1 _ _ _ f _) $$ Hf
  iintro Hf
  iapply (wp_head c 2 _ _ _ f _) $$ Hf
  iintro Hf
  iapply (wp_head c 3 _ _ _ f _) $$ Hf
  iintro Hf
  iapply (wp_head c 4 _ _ _ f _) $$ Hf
  iintro Hf
  iapply (wp_head c 5 _ _ _ f _) $$ Hf
  iintro Hf
  iapply (wp_head c 6 _ _ _ f _) $$ Hf
  iintro Hf
  iapply (wp_head c 7 _ _ _ f _) $$ Hf
  iintro Hf
  have hw := heads_written (projV x (I.wq c)) (projV x (I.wk c)) (projV x (I.wv c)) f
  simp only [List.map_cons, List.map_nil] at hw
  rw [hw]
  iapply (wp_load 𝒱₀ (c : Thread nD τ) none Set.univ (m := oM) (Finset.subset_univ _)) $$ Hf
  iintro Hf
  have hr : oM.view.readAt (Elt F) (Rect.unit (s := S128x512) ![0, 0] S128x512.size inb_S128x512_S128x512_0_0).toLoadRect
      (headsV (projV x (I.wq c)) (projV x (I.wk c)) (projV x (I.wv c))) = headsV (projV x (I.wq c)) (projV x (I.wk c)) (projV x (I.wv c)) :=
    Memref.readAt_unit_zero (Elt F) cc0_scratch4 hz2 _ _
  rw [hr]
  iapply (wp_weight c woM (I.wo c) (I.wo c) (Memref.readAt_unit_zero (Elt F) cc0_stg4_0 hz2 _ _)) $$ Ho
  iintro Ho
  iapply Hk
  isplitl [Hs]; · iexact Hs
  isplitr [Hf]
  · isplitl [Hq]; · iexact Hq
    isplitl [Hk']; · iexact Hk'
    isplitl [Hv] <;> iassumption
  · iexists _; iexact Hf

end Steps

end Cert.Proof
-- ==== Proof.Hop.lean ====
/- One hop: what the ten steps of a hop make of the four channels, from one transfer under way to the next. -/
module

public import proofs.«01_k».proof.Proof.Comp

@[expose] public section

set_option synthInstance.maxSize 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Steps

variable (I : Inp F) (Kn : Dev nD × Cell → ℕ) (Sn : Key → ℕ)

/-- The slot of the transfer under way can be read meanwhile. -/
theorem Chan_slot (c : Dev nD) (κ : Kind) (t : ℕ) :
    Chan I κ c t ⊢ iprop(slotPt c κ (par t) (fullShare : PosShare TreeShare).right (sent I κ c t)
      ∗ (slotPt c κ (par t) (fullShare : PosShare TreeShare).right (sent I κ c t) -∗ Chan I κ c t)) := by
  unfold Chan
  iintro ⟨H, Hr⟩
  isplitl [H]; · iexact H
  iintro H
  isplitl [H] <;> iassumption

omit [FloatOps F] in
/-- The slot that arrived can be read and written. -/
theorem ChanGot_slot (c : Dev nD) (κ : Kind) (t : ℕ) (v : Vec F S1x128x512 .bf16) :
    ChanGot κ c t v ⊢ iprop(slotPt c κ (par (t + 1)) fullShare v
      ∗ (∀ w, slotPt c κ (par (t + 1)) fullShare w -∗ ChanGot κ c t w)) := by
  unfold ChanGot
  iintro ⟨H, Hr⟩
  isplitl [H]; · iexact H
  iintro %w H
  isplitl [H] <;> iassumption

/-- This device's share is added to the sum that arrives, and the sum travels on. -/
theorem wp_add (c : Dev nD) (x a : Kind) {t : ℕ} (ht : t < 31) (n : Dev nD) (hn : n = dst a c) (S : Finset Ob)
    (hS : Ob.send a (t + 1) ∉ S) (hA : Above (2 * (t + 1) + 1) S)
    (hv : nextV (attnV I c (sent I x c (t + 1))) (I.wo c) (sent I a (src a c) t) = sent I a c (t + 1))
    {α : Type} {k : Unit → TProg F α} {Q : α → sProp 𝕄} :
    iprop(ctx I Kn Sn ∗ own c (insert (.send a (t + 1)) S) ∗ Chan I x c (t + 1) ∗ ChanDone (F := F) a c t ∗ Wts I c ∗ oAny (F := F) c)
      ⊢ iprop(((own c S ∗ Chan I x c (t + 1) ∗ Chan I a c (t + 1) ∗ Wts I c ∗ oAny (F := F) c) -∗ wpc c (k ⟨⟩) Q)
          -∗ wpc c (addP x a (par (t + 1)) n >>= k) Q) := by
  have hA' : Above (2 * (t + 1)) (insert (.send a (t + 1)) S) :=
    Above_insert (by simp only [Ob.lvl]; omega) (Above_mono (by omega) hA)
  have e : (addP x a (par (t + 1)) n >>= k : TProg F α)
      = attnP x (par (t + 1)) >>= fun r => recvP a (par (t + 1)) >>= fun _ => loadP a (par (t + 1)) >>= fun b =>
        loadP a (par (t + 1)) >>= fun _ => storeP a (par (t + 1)) (nextV r.1 r.2 b) >>= fun _ => forwardP a (par (t + 1)) n >>= k := by
    unfold addP forwardP
    simp only [bind_assoc]
  rw [e]
  iintro ⟨#Hctx, HO, Hx, Ha, HW, Ho⟩ Hk
  ihave Hx := (Chan_slot I c x (t + 1)) $$ Hx
  icases Hx with ⟨Hx, Hxk⟩
  iapply (wp_attn I c x (par (t + 1)) _ _) $$ [Hx HW Ho]
  · isplitl [Hx]; · iexact Hx
    isplitl [HW] <;> iassumption
  iintro ⟨Hx, HW, Ho⟩
  ihave Hx := Hxk $$ Hx
  iapply (wp_recv I Kn Sn c a ht _ hA') $$ [HO Ha]
  · isplitr; · iexact Hctx
    isplitl [HO] <;> iassumption
  iintro ⟨HO, Ha⟩
  ihave Ha := (ChanGot_slot c a t _) $$ Ha
  icases Ha with ⟨Hs, Hak⟩
  iapply (wp_slot c a (par (t + 1)) _ _) $$ Hs
  iintro Hs
  iapply (wp_slot c a (par (t + 1)) _ _) $$ Hs
  iintro Hs
  iapply (wp_put c a (par (t + 1)) _ _) $$ Hs
  iintro Hs
  ihave Ha := Hak $$ Hs
  dsimp only
  rw [hv]
  iapply (wp_forward I Kn Sn c a ht n hn S hS hA) $$ [HO Ha]
  · isplitr; · iexact Hctx
    isplitl [HO] <;> iassumption
  iintro ⟨HO, Ha⟩
  iapply Hk
  isplitl [HO]; · iexact HO
  isplitl [Hx]; · iexact Hx
  isplitl [Ha]; · iexact Ha
  isplitl [HW] <;> iassumption

theorem sentX_R (c : Dev nD) (t : ℕ) : sentX I .aR c t = sentX I .xR c t := by
  induction t generalizing c with
  | zero => rfl
  | succ t ih => exact ih (prv c)
theorem sentX_L (c : Dev nD) (t : ℕ) : sentX I .aL c t = sentX I .xL c t := by
  induction t generalizing c with
  | zero => rfl
  | succ t ih => exact ih (nxt c)

theorem sent_addR (c : Dev nD) (t : ℕ) :
    nextV (attnV I c (sent I .xR c (t + 1))) (I.wo c) (sent I .aR (src .aR c) t) = sent I .aR c (t + 1) := by
  show nextV (attnV I c (sentX I .xR c (t + 1))) (I.wo c) (sentA I .aR (src .aR c) t) = sentA I .aR c (t + 1)
  rw [← sentX_R]; rfl
theorem sent_addL (c : Dev nD) (t : ℕ) :
    nextV (attnV I c (sent I .xL c (t + 1))) (I.wo c) (sent I .aL (src .aL c) t) = sent I .aL c (t + 1) := by
  show nextV (attnV I c (sentX I .xL c (t + 1))) (I.wo c) (sentA I .aL (src .aL c) t) = sentA I .aL c (t + 1)
  rw [← sentX_L]; rfl

theorem sent_fwd : ∀ κ, κ = .xR ∨ κ = .xL → ∀ (c : Dev nD) (t : ℕ), sent I κ (src κ c) t = sent I κ c (t + 1)
  | .xR, _, _, _ => rfl
  | .xL, _, _, _ => rfl
  | .aR, h, _, _ => by rcases h with h | h <;> cases h
  | .aL, h, _, _ => by rcases h with h | h <;> cases h

/-- A device with transfer `t` of each channel under way. -/
def Ring (c : Dev nD) (t : ℕ) : sProp 𝕄 :=
  iprop(own c (obs (t + 1)) ∗ Chan I .xR c t ∗ Chan I .xL c t ∗ Chan I .aR c t ∗ Chan I .aL c t ∗ Wts I c ∗ oAny (F := F) c)

/-- One hop. -/
theorem wp_hop (c : Dev nD) {t : ℕ} (ht : t < 31) (s : Fin 2) (hs : s = par (t + 1)) (p1 p2 p3 p4 n1 n2 n3 n4 : Dev nD)
    (hp1 : p1 = prv c) (hp2 : p2 = nxt c) (hp3 : p3 = prv c) (hp4 : p4 = nxt c)
    (hn1 : n1 = nxt c) (hn2 : n2 = prv c) (hn3 : n3 = nxt c) (hn4 : n4 = prv c)
    {α : Type} {k : Unit → TProg F α} {Q : α → sProp 𝕄} :
    iprop(ctx I Kn Sn ∗ Ring I c t)
      ⊢ iprop((Ring I c (t + 1) -∗ wpc c (k ⟨⟩) Q) -∗ wpc c (hopP s p1 p2 p3 p4 n1 n2 n3 n4 >>= k) Q) := by
  subst hs
  unfold hopP
  rw [par_sub, show t + 1 + 1 = t + 2 from rfl, par_two]
  simp only [bind_assoc]
  have hB : Above (2 * (t + 1) + 1) (obs (t + 2)) := Above_mono (by omega) (Above_obs (t + 2))
  have ls : ∀ κ, 2 * (t + 1) + 1 < (Ob.send κ (t + 1)).lvl ∧ (Ob.send κ (t + 1)).lvl < 66 := fun κ => by simp only [Ob.lvl]; omega
  have lc : ∀ κ, 0 < (Ob.crd κ (t + 1)).lvl ∧ (Ob.crd κ (t + 1)).lvl < 66 := fun κ => by simp only [Ob.lvl]; omega
  have h1 := Above_insert (ls .aL) hB
  have h2 := Above_insert (ls .aR) h1
  have h3 := Above_insert (ls .xL) h2
  have h4 := Above_insert (ls .xR) h3
  have h5 := Above_insert (lc .aL) (Above_mono (Nat.zero_le _) h4)
  have h6 := Above_insert (lc .aR) h5
  have h7 := Above_insert (lc .xL) h6
  unfold Ring
  rw [obs_hop (by omega : t + 1 < 32)]
  unfold four
  iintro ⟨#Hctx, HO, HxR, HxL, HaR, HaL, HW, Ho⟩ Hk
  iapply (wp_done I Kn Sn c .xR ht p1 hp1 _ h7 (by simp [send_mem_obs, crd_mem_obs])) $$ [HO HxR]
  · isplitr; · iexact Hctx
    isplitl [HO] <;> iassumption
  iintro ⟨HO, HxR⟩
  iapply (wp_done I Kn Sn c .xL ht p2 hp2 _ h6 (by simp [send_mem_obs, crd_mem_obs])) $$ [HO HxL]
  · isplitr; · iexact Hctx
    isplitl [HO] <;> iassumption
  iintro ⟨HO, HxL⟩
  iapply (wp_done I Kn Sn c .aR ht p3 hp3 _ h5 (by simp [send_mem_obs, crd_mem_obs])) $$ [HO HaR]
  · isplitr; · iexact Hctx
    isplitl [HO] <;> iassumption
  iintro ⟨HO, HaR⟩
  iapply (wp_done I Kn Sn c .aL ht p4 hp4 _ (Above_mono (Nat.zero_le _) h4) (by simp [send_mem_obs, crd_mem_obs])) $$ [HO HaL]
  · isplitr; · iexact Hctx
    isplitl [HO] <;> iassumption
  iintro ⟨HO, HaL⟩
  iapply (wp_recv I Kn Sn c .xR ht _ (Above_mono (by omega) h4)) $$ [HO HxR]
  · isplitr; · iexact Hctx
    isplitl [HO] <;> iassumption
  iintro ⟨HO, HxR⟩
  iapply (wp_recv I Kn Sn c .xL ht _ (Above_mono (by omega) h4)) $$ [HO HxL]
  · isplitr; · iexact Hctx
    isplitl [HO] <;> iassumption
  iintro ⟨HO, HxL⟩
  rw [sent_fwd I .xR (.inl rfl) c t, sent_fwd I .xL (.inr rfl) c t]
  iapply (wp_forward I Kn Sn c .xR ht n1 hn1 _ (by simp [send_mem_obs, crd_mem_obs]) h3) $$ [HO HxR]
  · isplitr; · iexact Hctx
    isplitl [HO] <;> iassumption
  iintro ⟨HO, HxR⟩
  iapply (wp_forward I Kn Sn c .xL ht n2 hn2 _ (by simp [send_mem_obs, crd_mem_obs]) h2) $$ [HO HxL]
  · isplitr; · iexact Hctx
    isplitl [HO] <;> iassumption
  iintro ⟨HO, HxL⟩
  iapply (wp_add I Kn Sn c .xR .aR ht n3 hn3 _ (by simp [send_mem_obs, crd_mem_obs]) h1 (sent_addR I c t)) $$ [HO HxR HaR HW Ho]
  · isplitr; · iexact Hctx
    isplitl [HO]; · iexact HO
    isplitl [HxR]; · iexact HxR
    isplitl [HaR]; · iexact HaR
    isplitl [HW] <;> iassumption
  iintro ⟨HO, HxR, HaR, HW, Ho⟩
  iapply (wp_add I Kn Sn c .xL .aL ht n4 hn4 _ (by simp [send_mem_obs, crd_mem_obs]) hB (sent_addL I c t)) $$ [HO HxL HaL HW Ho]
  · isplitr; · iexact Hctx
    isplitl [HO]; · iexact HO
    isplitl [HxL]; · iexact HxL
    isplitl [HaL]; · iexact HaL
    isplitl [HW] <;> iassumption
  iintro ⟨HO, HxL, HaL, HW, Ho⟩
  iapply Hk
  isplitl [HO]; · iexact HO
  isplitl [HxR]; · iexact HxR
  isplitl [HxL]; · iexact HxL
  isplitl [HaR]; · iexact HaR
  isplitl [HaL]; · iexact HaL
  isplitl [HW] <;> iassumption

end Steps

end Cert.Proof
-- ==== Proof.Body.lean ====
/- The whole body on one device: the loop, what precedes it and what follows it. -/
module

public import proofs.«01_k».proof.Proof.Hop
public import proofs.«01_k».proof.Proof.Ends

@[expose] public section

set_option synthInstance.maxSize 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Steps

variable (I : Inp F) (Kn : Dev nD × Cell → ℕ) (Sn : Key → ℕ)

omit [FloatOps F] in
theorem dev_nxt (c : Dev nD) {n : ℕ} (h : n < nD) (e : n = (c.val + 1) % 32) : (⟨n, h⟩ : Dev nD) = nxt c := Fin.ext e
omit [FloatOps F] in
theorem dev_prv (c : Dev nD) {n : ℕ} (h : n < nD) (e : n = (c.val + 31) % 32) : (⟨n, h⟩ : Dev nD) = prv c := Fin.ext e

/-! ### The loop and the last hop -/

theorem trips_eq : k0_t1_loop.trips = 15 := by decide +kernel

/-- A trip of the loop: two hops. -/
theorem wp_trip (c : Dev nD) (i : ℕ) (hi : i < 15) {α : Type} {k : Unit → TProg F α} {Q : α → sProp 𝕄} :
    iprop(ctx I Kn Sn ∗ Ring I c (2 * i))
      ⊢ iprop((Ring I c (2 * (i + 1)) -∗ wpc c (k ⟨⟩) Q) -∗ wpc c (tripP c >>= k) Q) := by
  unfold tripP
  simp only [bind_assoc]
  iintro ⟨#Hctx, HR⟩ Hk
  iapply (wp_hop I Kn Sn c (by omega : 2 * i < 31) 1 (Fin.ext (show 1 = (2 * i + 1) % 2 by omega)) _ _ _ _ _ _ _ _
    (dev_prv c (k0_dev7_lt c) (k0_dev7_eq c)) (dev_nxt c (k0_dev8_lt c) (k0_dev8_eq c)) (dev_prv c (k0_dev9_lt c) (k0_dev9_eq c)) (dev_nxt c (k0_dev10_lt c) (k0_dev10_eq c)) (dev_nxt c (k0_dev11_lt c) (k0_dev11_eq c)) (dev_prv c (k0_dev12_lt c) (k0_dev12_eq c)) (dev_nxt c (k0_dev13_lt c) (k0_dev13_eq c)) (dev_prv c (k0_dev14_lt c) (k0_dev14_eq c))) $$ [HR]
  · isplitr; · iexact Hctx
    iexact HR
  iintro HR
  iapply (wp_hop I Kn Sn c (by omega : 2 * i + 1 < 31) 0 (Fin.ext (show 0 = (2 * i + 1 + 1) % 2 by omega)) _ _ _ _ _ _ _ _
    (dev_prv c (k0_dev15_lt c) (k0_dev15_eq c)) (dev_nxt c (k0_dev16_lt c) (k0_dev16_eq c)) (dev_prv c (k0_dev17_lt c) (k0_dev17_eq c)) (dev_nxt c (k0_dev18_lt c) (k0_dev18_eq c)) (dev_nxt c (k0_dev19_lt c) (k0_dev19_eq c)) (dev_prv c (k0_dev20_lt c) (k0_dev20_eq c)) (dev_nxt c (k0_dev21_lt c) (k0_dev21_eq c)) (dev_prv c (k0_dev22_lt c) (k0_dev22_eq c))) $$ [HR]
  · isplitr; · iexact Hctx
    iexact HR
  iintro HR
  iapply Hk
  iexact HR

/-- The loop: thirty hops. -/
theorem wp_loop (c : Dev nD) {α : Type} {k : Unit → TProg F α} {Q : α → sProp 𝕄} :
    iprop(ctx I Kn Sn ∗ Ring I c 0) ⊢ iprop((Ring I c 30 -∗ wpc c (k ⟨⟩) Q) -∗ wpc c (loopP c >>= k) Q) := by
  have h := Scf.wp_for_bind frame (wpE (defs₀ (F := F)) 𝒱₀ (c : Thread nD τ) none) Set.univ k0_t1_loop.lb k0_t1_loop.ub k0_t1_loop.st k0_t1_ok
    (⟨⟩ : Unit) (fun _ _ => tripP c) (fun i _ => iprop(ctx I Kn Sn ∗ Ring I c (2 * i))) (fun i _ => by
      have hi : i.val < 15 := lt_of_lt_of_eq i.isLt trips_eq
      rw [← bind_pure (tripP c)]
      iintro ⟨#Hctx, HR⟩
      iapply (wp_trip I Kn Sn c i.val hi) $$ [HR]
      · isplitr; · iexact Hctx
        iexact HR
      iintro HR
      iapply (Entails.of_eq (wp_ret frame (wpE (defs₀ (F := F)) 𝒱₀ (c : Thread nD τ) none) Set.univ PUnit.unit
        (fun _ => iprop(ctx I Kn Sn ∗ Ring I c (2 * (i.val + 1))))).symm)
      imodintro
      isplitr; · iexact Hctx
      iexact HR) (kk := k) (Q := Q)
  iintro H Hk
  iapply h $$ [H]
  · iexact H
  iintro %_ ⟨-, HR⟩
  iapply Hk
  have e : Scf.trips k0_t1_loop.lb k0_t1_loop.ub k0_t1_loop.st = 15 := trips_eq
  rw [e]
  iexact HR

/-- The hop after the loop. -/
theorem wp_last (c : Dev nD) {α : Type} {k : Unit → TProg F α} {Q : α → sProp 𝕄} :
    iprop(ctx I Kn Sn ∗ Ring I c 30) ⊢ iprop((Ring I c 31 -∗ wpc c (k ⟨⟩) Q) -∗ wpc c (lastP c >>= k) Q) := by
  unfold lastP
  exact wp_hop I Kn Sn c (by omega : 30 < 31) 1 rfl _ _ _ _ _ _ _ _
    (dev_prv c (k0_dev23_lt c) (k0_dev23_eq c)) (dev_nxt c (k0_dev24_lt c) (k0_dev24_eq c)) (dev_prv c (k0_dev25_lt c) (k0_dev25_eq c)) (dev_nxt c (k0_dev26_lt c) (k0_dev26_eq c)) (dev_nxt c (k0_dev27_lt c) (k0_dev27_eq c)) (dev_prv c (k0_dev28_lt c) (k0_dev28_eq c)) (dev_nxt c (k0_dev29_lt c) (k0_dev29_eq c)) (dev_prv c (k0_dev30_lt c) (k0_dev30_eq c))

/-! ### The end -/

/-- Both batches' finished sums, widened: what the device writes out. -/
def outB (v w : Vec F S1x128x512 .bf16) : Vec F S2x128x512 .f32 := fun i =>
  outV (if (i 0).val = 0 then v else w) (fun | ⟨0, _⟩ => ⟨0, Nat.one_pos⟩ | ⟨1, _⟩ => i 1 | ⟨2, _⟩ => i 2)

omit [FloatOps F] in
theorem slot_emb (s : Fin 2) (x : (slotRect s).shape.Idx) :
    (((slotRect s).emb x) 0).val = s.val ∧ (((slotRect s).emb x) 1).val = (x 1).val ∧ (((slotRect s).emb x) 2).val = (x 2).val := by
  have h0 : (x 0).val < 1 := (x 0).isLt
  refine ⟨?_, ?_, ?_⟩
  · show s.val + 1 * (x 0).val = _; omega
  · show 0 + 1 * (x 1).val = _; omega
  · show 0 + 1 * (x 2).val = _; omega

theorem outB_slot (v w : Vec F S1x128x512 .bf16) (s : Fin 2) (x : (slotRect s).shape.Idx) :
    outV (if s.val = 0 then v else w) x = outB v w ((slotRect s).emb x) := by
  obtain ⟨e0, e1, e2⟩ := slot_emb s x
  have h0 : (x 0).val < 1 := (x 0).isLt
  unfold outB
  rw [e0]
  congr 1
  funext a
  match a with
  | 0 => exact Fin.ext (show (x 0).val = 0 by omega)
  | 1 => exact Fin.ext e1.symm
  | 2 => exact Fin.ext e2.symm

/-- The two writes leave both sums. -/
theorem out_written (v w : Vec F S1x128x512 .bf16) (f : outM.view.ty.Contents (Elt F)) :
    outM.view.writes (Elt F) f [⟨slotRect 1, outV w⟩, ⟨slotRect 0, outV v⟩] = outB v w := by
  funext y
  refine (congrFun (View.read_whole cc0_stg5_0 (outM.view.writes (Elt F) f _)).symm y).trans
    (View.read_writes_apply_of_pieces (v := outM.view) (Val := Elt F) (f := f) (outB v w) _ ?_ y ?_)
  · intro p hp x
    rcases List.mem_cons.mp hp with rfl | hp
    · exact outB_slot v w 1 x
    · obtain rfl := List.mem_singleton.mp hp
      exact outB_slot v w 0 x
  · rcases rect_cover y with h | h
    · exact ⟨⟨slotRect 0, outV v⟩, by simp, h⟩
    · exact ⟨⟨slotRect 1, outV w⟩, by simp, h⟩

/-- A finished sum is written out. -/
theorem wp_out (c : Dev nD) (κ : Kind) (b : Fin 2) (v : Vec F S1x128x512 .bf16) (f : outM.view.ty.Contents (Elt F))
    (L : List (View.Piece (Elt F) S2x128x512 .f32)) {α : Type} {k : Unit → TProg F α} {Q : α → sProp 𝕄} :
    iprop(ChanOver κ c v ∗ outM.view.loc (c : Thread nD τ) ↦{fullShare} (outM.view.writes (Elt F) f L))
      ⊢ iprop(((ChanOver κ c v ∗ outM.view.loc (c : Thread nD τ) ↦{fullShare} (outM.view.writes (Elt F) f (⟨slotRect b, outV v⟩ :: L)))
          -∗ wpc c (k ⟨⟩) Q) -∗ wpc c (outP κ b >>= k) Q) := by
  have e : (outP κ b >>= k : TProg F α) = loadP κ 0 >>= fun a => .op (.load outM (slotRect b).toLoadRect (View.loadsAt_vmem h_S1x128x512)) fun _ =>
      .op (.store outM (slotRect b) (outV a) Finset.univ (View.stores_vmem_bits_univ h_S1x128x512 rfl) (.inl rfl)) k := rfl
  rw [e]
  unfold ChanOver
  iintro ⟨⟨Hs, Hr⟩, H⟩ Hk
  iapply (wp_slot c κ 0 _ _) $$ Hs
  iintro Hs
  iapply (wp_load 𝒱₀ (c : Thread nD τ) none Set.univ (m := outM) (Finset.subset_univ _)) $$ H
  iintro H
  iapply (wp_store 𝒱₀ (c : Thread nD τ) none Set.univ (m := outM) (r := slotRect b) (Mk := Finset.univ) (Finset.subset_univ _)) $$ H
  iintro H
  iapply Hk
  isplitr [H]
  · isplitl [Hs] <;> iassumption
  · iexact H

/-- What a device ends with. -/
def Over (c : Dev nD) : sProp 𝕄 :=
  iprop(own c ∅ ∗ ChanOver .xR c (sent I .xR (src .xR c) 31) ∗ ChanOver .xL c (sent I .xL (src .xL c) 31)
    ∗ ChanOver .aR c (sent I .aR (src .aR c) 31) ∗ ChanOver .aL c (sent I .aL (src .aL c) 31) ∗ Wts I c ∗ oAny (F := F) c
    ∗ outM.view.loc (c : Thread nD τ) ↦{fullShare} outB (sent I .aR (src .aR c) 31) (sent I .aL (src .aL c) 31))

theorem wp_end (c : Dev nD) (f : outM.view.ty.Contents (Elt F)) {α : Type} {k : Unit → TProg F α} {Q : α → sProp 𝕄} :
    iprop(ctx I Kn Sn ∗ Ring I c 31 ∗ outM.view.loc (c : Thread nD τ) ↦{fullShare} f)
      ⊢ iprop((Over I c -∗ wpc c (k ⟨⟩) Q) -∗ wpc c (endP c >>= k) Q) := by
  unfold endP
  simp only [bind_assoc]
  have lc : ∀ κ, 0 < (Ob.crd κ 32).lvl ∧ (Ob.crd κ 32).lvl < 66 := fun κ => by simp only [Ob.lvl]; omega
  have h0 : Above 0 ∅ := fun o ho => absurd ho (Finset.notMem_empty o)
  have h1 := Above_insert (lc .aL) h0
  have h2 := Above_insert (lc .aR) h1
  have h3 := Above_insert (lc .xL) h2
  unfold Ring
  rw [obs_last]
  unfold four
  iintro ⟨#Hctx, ⟨HO, HxR, HxL, HaR, HaL, HW, Ho⟩, Hf⟩ Hk
  iapply (wp_doneLast I Kn Sn c .xR _ (dev_prv c (k0_dev31_lt c) (k0_dev31_eq c)) _ h3 (by simp)) $$ [HO HxR]
  · isplitr; · iexact Hctx
    isplitl [HO] <;> iassumption
  iintro ⟨HO, HxR⟩
  iapply (wp_doneLast I Kn Sn c .xL _ (dev_nxt c (k0_dev32_lt c) (k0_dev32_eq c)) _ h2 (by simp)) $$ [HO HxL]
  · isplitr; · iexact Hctx
    isplitl [HO] <;> iassumption
  iintro ⟨HO, HxL⟩
  iapply (wp_doneLast I Kn Sn c .aR _ (dev_prv c (k0_dev33_lt c) (k0_dev33_eq c)) _ h1 (by simp)) $$ [HO HaR]
  · isplitr; · iexact Hctx
    isplitl [HO] <;> iassumption
  iintro ⟨HO, HaR⟩
  iapply (wp_doneLast I Kn Sn c .aL _ (dev_nxt c (k0_dev34_lt c) (k0_dev34_eq c)) _ h0 (by simp)) $$ [HO HaL]
  · isplitr; · iexact Hctx
    isplitl [HO] <;> iassumption
  iintro ⟨HO, HaL⟩
  iapply (wp_recvLast I Kn Sn c .xR) $$ [HO HxR]
  · isplitr; · iexact Hctx
    isplitl [HO] <;> iassumption
  iintro ⟨HO, HxR⟩
  iapply (wp_recvLast I Kn Sn c .xL) $$ [HO HxL]
  · isplitr; · iexact Hctx
    isplitl [HO] <;> iassumption
  iintro ⟨HO, HxL⟩
  iapply (wp_recvLast I Kn Sn c .aR) $$ [HO HaR]
  · isplitr; · iexact Hctx
    isplitl [HO] <;> iassumption
  iintro ⟨HO, HaR⟩
  iapply (wp_recvLast I Kn Sn c .aL) $$ [HO HaL]
  · isplitr; · iexact Hctx
    isplitl [HO] <;> iassumption
  iintro ⟨HO, HaL⟩
  iapply (wp_crdLast I Kn Sn c .xR _) $$ [HO HxR]
  · isplitr; · iexact Hctx
    isplitl [HO] <;> iassumption
  iintro ⟨HO, HxR⟩
  iapply (wp_crdLast I Kn Sn c .xL _) $$ [HO HxL]
  · isplitr; · iexact Hctx
    isplitl [HO] <;> iassumption
  iintro ⟨HO, HxL⟩
  iapply (wp_crdLast I Kn Sn c .aR _) $$ [HO HaR]
  · isplitr; · iexact Hctx
    isplitl [HO] <;> iassumption
  iintro ⟨HO, HaR⟩
  iapply (wp_crdLast I Kn Sn c .aL _) $$ [HO HaL]
  · isplitr; · iexact Hctx
    isplitl [HO] <;> iassumption
  iintro ⟨HO, HaL⟩
  have e0 : (outM.view.loc (c : Thread nD τ) ↦{fullShare} f)
      ⊢ (outM.view.loc (c : Thread nD τ) ↦{fullShare} (outM.view.writes (Elt F) f []) : sProp 𝕄) := Entails.of_eq rfl
  ihave Hf := e0 $$ Hf
  iapply (wp_out c .aR 0 _ f []) $$ [HaR Hf]
  · isplitl [HaR] <;> iassumption
  iintro ⟨HaR, Hf⟩
  iapply (wp_out c .aL 1 _ f _) $$ [HaL Hf]
  · isplitl [HaL] <;> iassumption
  iintro ⟨HaL, Hf⟩
  rw [out_written]
  iapply Hk
  unfold Over
  isplitl [HO]; · iexact HO
  isplitl [HxR]; · iexact HxR
  isplitl [HxL]; · iexact HxL
  isplitl [HaR]; · iexact HaR
  isplitl [HaL]; · iexact HaL
  isplitl [HW]; · iexact HW
  isplitl [Ho] <;> iassumption

end Steps

end Cert.Proof
-- ==== Proof.Start.lean ====
/- What precedes the loop: the barrier with both neighbours, and the first transfer of each channel. -/
module

public import proofs.«01_k».proof.Proof.Body

@[expose] public section

set_option synthInstance.maxSize 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Steps

variable (I : Inp F) (Kn : Dev nD × Cell → ℕ) (Sn : Key → ℕ)

/-! ### A channel at the launch -/

/-- The channel as the launch gives it. -/
def ChanRaw (κ : Kind) (c : Dev nD) : sProp 𝕄 :=
  iprop(At (F := F) c (.snd κ 0) 0 ∗ At (F := F) c (.snd κ 1) 0 ∗ At (F := F) c (.rcv κ 0) 0 ∗ At (F := F) c (.rcv κ 1) 0
    ∗ At (F := F) c (.crd κ) 0 ∗ Release.readerAt ES (c, κ, 0) 0 ∗ Release.readerAt ES (c, κ, 1) 0 ∗ bufAny (F := F) c κ
    ∗ Toks (F := F) κ c 0 1 0 1)

/-- Slot 1 is given away, and the channel is ready. -/
theorem chan_open (c : Dev nD) (κ : Kind) :
    iprop(ctx I Kn Sn ∗ ChanRaw (F := F) κ c)
      ⊢ (|={Set.univ}=> (ChanInit (F := F) κ c ∗ slotAny (F := F) c κ 0 ∗ Ready κ c 0) : sProp 𝕄) := by
  unfold ChanRaw
  iintro ⟨#Hctx, Hs0, Hs1, Hr0, Hr1, Hc, Hd0, Hd1, Hb, Ht⟩
  ihave Hb := (buf_split (F := F) c κ) $$ Hb
  icases Hb with ⟨Hb0, Hb1⟩
  imod (give_first (F := F) Sn c κ) $$ [Hd1 Hb1] with ⟨Hd1, #HR⟩
  · isplitr; · iapply (ctx_slot I Kn Sn c κ 1); iexact Hctx
    isplitl [Hd1]; · iexact Hd1
    isplitl [Hb1]; · iexact Hb1
    iapply (ctx_reached I Kn Sn c (.rcv κ 1)); iexact Hctx
  imodintro
  isplitr [Hb0]
  · unfold ChanInit
    isplitl [Hs0]; · iexact Hs0
    isplitl [Hs1]; · iexact Hs1
    isplitl [Hr0]; · iexact Hr0
    isplitl [Hr1]; · iexact Hr1
    isplitl [Hd0]; · iexact Hd0
    isplitl [Hd1]; · iexact Hd1
    isplitr; · iexact HR
    isplitr [Ht]
    · unfold CrdPos At
      icases Hc with ⟨Hc, -⟩
      iexists ∅
      isplitr; · ipureintro; exact Finset.empty_subset _
      isplitl [Hc]; · iexact Hc
      rw [bigSep_empty]
      iempintro
    · iexact Ht
  · isplitl [Hb0]; · iexact Hb0
    iexact HR

/-! ### The barrier -/

theorem rest_bar (c : Dev nD) :
    bigSep ((ringRd I).duties (cell c .bar) 0 \ ∅) (fun d => (ringRd I).payload (cell c .bar) 0 d)
      = iprop((Ready (F := F) .xL (prv c) 0 ∗ Ready .aL (prv c) 0) ∗ (Ready .xR (nxt c) 0 ∗ Ready .aR (nxt c) 0)) := by
  rw [Finset.sdiff_empty, duties_cell, show dutiesC .bar 0 = {0, 1} from rfl, bigSep_insert (by decide), bigSep_singleton,
    payload_cell, payload_cell]
  rfl

theorem expect_bar (c : Dev nD) : (ringRd I).expect (cell c .bar) 0 = 2 := by
  rw [expect_cell]; rfl

/-- The rights of the barrier: to signal both neighbours, and to wait for both. -/
def BarTok (c : Dev nD) : sProp 𝕄 :=
  iprop(dutyTok ER (cell (prv c) .bar) 0 1 ∗ dutyTok ER (cell (nxt c) .bar) 0 0 ∗ cred (tallyAt (cell c .bar) 1 2))

theorem bar_duty (c : Dev nD) {d : ℕ} (hd : d < 2) : d ∈ (ringRd I).duties (cell c .bar) 0 := by
  rw [duties_cell, show dutiesC .bar 0 = {0, 1} from rfl, Finset.mem_insert, Finset.mem_singleton]
  omega

theorem bar_units (c : Dev nD) (d : ℕ) : (ringRd I).amount (cell c .bar) 0 d = 1 := amount_cell I c .bar 0 d

theorem bar_pay1 (c : Dev nD) : iprop(Ready (F := F) .xR c 0 ∗ Ready (F := F) .aR c 0) ⊢ ((ringRd I).payload (cell (prv c) .bar) 0 1 : sProp 𝕄) := by
  rw [payload_cell]
  refine Entails.of_eq ?_
  show _ = iprop(Ready (F := F) .xR (nxt (prv c)) 0 ∗ Ready (F := F) .aR (nxt (prv c)) 0)
  rw [nxt_prv]

theorem bar_pay0 (c : Dev nD) : iprop(Ready (F := F) .xL c 0 ∗ Ready (F := F) .aL c 0) ⊢ ((ringRd I).payload (cell (nxt c) .bar) 0 0 : sProp 𝕄) := by
  rw [payload_cell]
  refine Entails.of_eq ?_
  show _ = iprop(Ready (F := F) .xL (prv (nxt c)) 0 ∗ Ready (F := F) .aL (prv (nxt c)) 0)
  rw [prv_nxt]

omit [FloatOps F] in
theorem barP_eq (n1 n2 : Dev nD) {α : Type} (k : Unit → TProg F α) :
    (barP n1 n2 >>= k : TProg F α) = .op (.semSignal ((n1 : Dev nD) : Thread nD τ) barS (1#32).toInt) fun _ =>
      .op (.semSignal ((n2 : Dev nD) : Thread nD τ) barS (1#32).toInt) fun _ => .op (.semWait barS (2#32).toInt.toNat) k := rfl

/-- A signal to a neighbour's barrier semaphore. -/
theorem wp_barSig (c n : Dev nD) (o : Ob) (ho : o.cell c = cell n .bar) (hl : o.lvl = 1) (hu : o.units = 1) {d : ℕ} (hd : d < 2) (S : Finset Ob)
    (hb : o ∉ S) {α : Type} {k : PUnit → TProg F α} {Q : α → sProp 𝕄} :
    iprop(ctx I Kn Sn ∗ own c (insert o S) ∗ dutyTok ER (cell n .bar) 0 d ∗ (ringRd I).payload (cell n .bar) 0 d)
      ⊢ iprop((own c S -∗ wpc c (k ⟨⟩) Q) -∗ wpc c (.op (.semSignal ((n : Dev nD) : Thread nD τ) barS (1#32).toInt) k) Q) := by
  have hO : owed c (insert o S) = owed c S + tallyAt (cell n .bar) 1 1 := by rw [owed_insert c hb, ho, hl, hu]
  unfold own
  iintro ⟨#Hctx, ⟨%W, HO⟩, Ht, Hp⟩ Hk
  iapply (Rounds.wp_signal 𝒱₀ ER (ringRd I) (c : Thread nD τ) none (dst := (n : Thread nD τ)) (κ := Kn (n, .bar))
      (r := 0) (d := d) (bar_duty I n hd) (bar_units I n d) 1 (owed c S) hO) $$ [HO Ht Hp]
  · isplitr; · iapply (ctx_cell I Kn Sn n .bar); iexact Hctx
    isplitl [HO]; · iexact HO
    isplitl [Ht]; · iexact Ht
    isplitl [Hp]
    · have hp : (ringRd I).payload (cell n .bar) 0 d ⊢ ((ringRd I).payload ((n : Thread nD τ), SemLoc.reg barS) 0 d : sProp 𝕄) := Entails.of_eq rfl
      iapply hp; iexact Hp
    iapply (ctx_reached I Kn Sn n .bar); iexact Hctx
  iintro HO
  iapply Hk
  iexists _; iexact HO

/-- The wait for both neighbours. -/
theorem wp_barWait (c : Dev nD) (S : Finset Ob) (hA : Above 1 S) {α : Type} {k : PUnit → TProg F α} {Q : α → sProp 𝕄} :
    iprop(ctx I Kn Sn ∗ own c S ∗ cred (tallyAt (cell c .bar) 1 2) ∗ At (F := F) c .bar 0)
      ⊢ iprop(((own c S ∗ At (F := F) c .bar 1 ∗ Ready (F := F) .xR (nxt c) 0 ∗ Ready (F := F) .xL (prv c) 0
            ∗ Ready (F := F) .aR (nxt c) 0 ∗ Ready (F := F) .aL (prv c) 0) -∗ wpc c (k ⟨⟩) Q)
          -∗ wpc c (.op (.semWait barS (2#32).toInt.toNat) k) Q) := by
  unfold own At
  iintro ⟨#Hctx, ⟨%W, HO⟩, Hcr, Hat, -⟩ Hk
  iapply (Rounds.wp_wait_rest_token 𝒱₀ ER (ringRd I) (c : Thread nD τ) none (κ := Kn (c, .bar)) (sm := csem .bar) (k' := 2)
      (fun K => wpE_semWait_eq 𝒱₀ (c : Thread nD τ) none Set.univ K) (Set.mem_univ _) 1 (O := owed c S) (W := W) (R := 0) (m := 0) (T := ∅)
      (by rw [Nat.zero_add]; exact (expect_bar I c).symm)) $$ [Hcr HO Hat]
  · isplitr; · iapply (ctx_cell I Kn Sn c .bar); iexact Hctx
    isplitl [Hcr]; · iexact Hcr
    isplitl [HO]; · iexact HO
    isplitr
    · iapply (ctx_mayWait I Kn Sn c (csem .bar) 1 S (by omega) hA); iexact Hctx
    iexact Hat
  iintro ⟨HO, Hat, Hr, Hpay⟩
  ihave Hpay := (Entails.of_eq (rest_bar I c)) $$ Hpay
  icases Hpay with ⟨⟨HxL, HaL⟩, HxR, HaR⟩
  iapply Hk
  isplitl [HO]; · iexists _; iexact HO
  isplitl [Hat Hr]
  · isplitl [Hat] <;> iassumption
  isplitl [HxR]; · iexact HxR
  isplitl [HxL]; · iexact HxL
  isplitl [HaR] <;> iassumption

/-- The barrier: the neighbours learn that slots 1 may be written, and so does the device. -/
theorem wp_bar (c : Dev nD) (n1 n2 : Dev nD) (h1 : n1 = prv c) (h2 : n2 = nxt c) (S : Finset Ob)
    (hA : Above 1 S) (hb : ∀ b, Ob.bar b ∉ S) {α : Type} {k : Unit → TProg F α} {Q : α → sProp 𝕄} :
    iprop(ctx I Kn Sn ∗ own c (insert (.bar false) (insert (.bar true) S)) ∗ BarTok (F := F) c ∗ At (F := F) c .bar 0
        ∗ Ready (F := F) .xR c 0 ∗ Ready (F := F) .xL c 0 ∗ Ready (F := F) .aR c 0 ∗ Ready (F := F) .aL c 0)
      ⊢ iprop(((own c S ∗ At (F := F) c .bar 1 ∗ Ready (F := F) .xR (nxt c) 0 ∗ Ready (F := F) .xL (prv c) 0
            ∗ Ready (F := F) .aR (nxt c) 0 ∗ Ready (F := F) .aL (prv c) 0) -∗ wpc c (k ⟨⟩) Q)
          -∗ wpc c (barP n1 n2 >>= k) Q) := by
  subst h1 h2
  rw [barP_eq]
  have hf : Ob.bar false ∉ insert (Ob.bar true) S := by
    rw [Finset.mem_insert]; rintro (h | h)
    · cases h
    · exact hb false h
  unfold BarTok
  iintro ⟨#Hctx, HO, ⟨Ht1, Ht0, Hcr⟩, Hat, HxR, HxL, HaR, HaL⟩ Hk
  iapply (wp_barSig I Kn Sn c (prv c) (.bar false) rfl rfl rfl (by omega : 1 < 2) _ hf) $$ [HO Ht1 HxR HaR]
  · isplitr; · iexact Hctx
    isplitl [HO]; · iexact HO
    isplitl [Ht1]; · iexact Ht1
    iapply (bar_pay1 I c)
    isplitl [HxR] <;> iassumption
  iintro HO
  iapply (wp_barSig I Kn Sn c (nxt c) (.bar true) rfl rfl rfl (by omega : 0 < 2) _ (hb true)) $$ [HO Ht0 HxL HaL]
  · isplitr; · iexact Hctx
    isplitl [HO]; · iexact HO
    isplitl [Ht0]; · iexact Ht0
    iapply (bar_pay0 I c)
    isplitl [HxL] <;> iassumption
  iintro HO
  iapply (wp_barWait I Kn Sn c S hA) $$ [HO Hcr Hat]
  · isplitr; · iexact Hctx
    isplitl [HO]; · iexact HO
    isplitl [Hcr] <;> iassumption
  iexact Hk

/-! ### The first transfers -/

/-- The staged rows `X` are the device's two batches. -/
def Rows (c : Dev nD) (X : xM.view.ty.Contents (Elt F)) : Prop :=
  ∀ b, (xM.access (slotRect b)).read (Elt F) X = I.x c b

/-- A batch of the staged rows is copied into slot 0. -/
theorem wp_init (c : Dev nD) (κ : Kind) (b : Fin 2) (X : xM.view.ty.Contents (Elt F)) (hX : Rows I c X)
    {α : Type} {k : Unit → TProg F α} {Q : α → sProp 𝕄} :
    iprop(slotAny (F := F) c κ 0 ∗ xM.view.loc (c : Thread nD τ) ↦{fullShare} X)
      ⊢ iprop(((slotPt c κ 0 fullShare (copyV (I.x c b)) ∗ xM.view.loc (c : Thread nD τ) ↦{fullShare} X) -∗ wpc c (k ⟨⟩) Q)
          -∗ wpc c (initP κ b >>= k) Q) := by
  have e : (initP κ b >>= k : TProg F α) = .op (.load xM (slotRect b).toLoadRect (View.loadsAt_vmem h_S1x128x512)) fun x =>
      loadP κ 0 >>= fun _ => storeP κ 0 (copyV x) >>= k := rfl
  rw [e]
  iintro ⟨Hs, Hx⟩ Hk
  ihave Hs := (slotAny_pt (F := F) c κ 0) $$ Hs
  icases Hs with ⟨%v, Hs⟩
  iapply (wp_load_rect 𝒱₀ (c : Thread nD τ) none Set.univ (m := xM) (r := slotRect b) (Finset.subset_univ _)) $$ Hx
  iintro Hx
  iapply (wp_slot c κ 0 _ _) $$ Hs
  iintro Hs
  iapply (wp_put c κ 0 _ _) $$ Hs
  iintro Hs
  have h := hX b
  rw [h]
  iapply Hk
  isplitl [Hs] <;> iassumption

theorem sent_init : ∀ κ, κ = .xR ∨ κ = .xL → ∀ c : Dev nD, copyV (I.x c (batch κ)) = sent I κ c 0
  | .xR, _, _ => rfl
  | .xL, _, _ => rfl
  | .aR, h, _ => by rcases h with h | h <;> cases h
  | .aL, h, _ => by rcases h with h | h <;> cases h

/-- The device's share for its own rows is the first sum that travels. -/
theorem wp_share (c : Dev nD) (x a : Kind) (n : Dev nD) (hn : n = dst a c) (S : Finset Ob) (hS : Ob.send a 0 ∉ S)
    (hv : firstV (attnV I c (sent I x c 0)) (I.wo c) = sent I a c 0)
    {α : Type} {k : Unit → TProg F α} {Q : α → sProp 𝕄} :
    iprop(ctx I Kn Sn ∗ own c (insert (.send a 0) S) ∗ Chan I x c 0 ∗ ChanInit (F := F) a c ∗ slotAny (F := F) c a 0
        ∗ Ready (F := F) a (dst a c) 0 ∗ Wts I c ∗ oAny (F := F) c)
      ⊢ iprop(((own c S ∗ Chan I x c 0 ∗ Chan I a c 0 ∗ Wts I c ∗ oAny (F := F) c) -∗ wpc c (k ⟨⟩) Q)
          -∗ wpc c (firstP x a n >>= k) Q) := by
  have e : (firstP x a n >>= k : TProg F α) = attnP x (par 0) >>= fun r => loadP a 0 >>= fun _ =>
      storeP a 0 (firstV r.1 r.2) >>= fun _ => sendP a 0 n >>= k := by
    unfold firstP
    simp only [bind_assoc]
    rfl
  rw [e]
  iintro ⟨#Hctx, HO, Hx, Ha, Hs, HR, HW, Ho⟩ Hk
  ihave Hx := (Chan_slot I c x 0) $$ Hx
  icases Hx with ⟨Hx, Hxk⟩
  iapply (wp_attn I c x (par 0) _ _) $$ [Hx HW Ho]
  · isplitl [Hx]; · iexact Hx
    isplitl [HW] <;> iassumption
  iintro ⟨Hx, HW, Ho⟩
  ihave Hx := Hxk $$ Hx
  ihave Hs := (slotAny_pt (F := F) c a 0) $$ Hs
  icases Hs with ⟨%v, Hs⟩
  iapply (wp_slot c a 0 _ _) $$ Hs
  iintro Hs
  iapply (wp_put c a 0 _ _) $$ Hs
  iintro Hs
  dsimp only
  rw [hv]
  iapply (wp_first I Kn Sn c a n hn S hS) $$ [HO Ha Hs HR]
  · isplitr; · iexact Hctx
    isplitl [HO]; · iexact HO
    isplitl [Ha]; · iexact Ha
    isplitl [Hs] <;> iassumption
  iintro ⟨HO, Ha⟩
  iapply Hk
  isplitl [HO]; · iexact HO
  isplitl [Hx]; · iexact Hx
  isplitl [Ha]; · iexact Ha
  isplitl [HW] <;> iassumption

/-- All a device owes at the launch. -/
def obs0 : Finset Ob := insert (.bar false) (insert (.bar true) (four (fun κ => .send κ 0) (obs 1)))

/-- What a device starts with. -/
def Start (c : Dev nD) : sProp 𝕄 :=
  iprop(own c obs0 ∗ BarTok (F := F) c ∗ At (F := F) c .bar 0 ∗ ChanRaw (F := F) .xR c ∗ ChanRaw (F := F) .xL c
    ∗ ChanRaw (F := F) .aR c ∗ ChanRaw (F := F) .aL c ∗ Wts I c ∗ oAny (F := F) c)

theorem wp_start (c : Dev nD) (X : xM.view.ty.Contents (Elt F)) (hX : Rows I c X)
    {α : Type} {k : Unit → TProg F α} {Q : α → sProp 𝕄} :
    iprop(ctx I Kn Sn ∗ Start I c ∗ xM.view.loc (c : Thread nD τ) ↦{fullShare} X)
      ⊢ iprop(((Ring I c 0 ∗ At (F := F) c .bar 1 ∗ xM.view.loc (c : Thread nD τ) ↦{fullShare} X) -∗ wpc c (k ⟨⟩) Q)
          -∗ wpc c (startP c >>= k) Q) := by
  unfold startP
  simp only [bind_assoc]
  have hA : Above 1 (four (fun κ => .send κ 0) (obs 1)) :=
    Above_four (fun κ => by simp only [Ob.lvl]; omega) (Above_mono (by omega) (Above_obs 1))
  unfold Start obs0
  iintro ⟨#Hctx, ⟨HO, Hbt, Hba, HxR, HxL, HaR, HaL, HW, Ho⟩, Hx⟩ Hk
  imod (chan_open I Kn Sn c .xR) $$ [HxR] with ⟨HxR, HsxR, #HRxR⟩
  · isplitr; · iexact Hctx
    iexact HxR
  imod (chan_open I Kn Sn c .xL) $$ [HxL] with ⟨HxL, HsxL, #HRxL⟩
  · isplitr; · iexact Hctx
    iexact HxL
  imod (chan_open I Kn Sn c .aR) $$ [HaR] with ⟨HaR, HsaR, #HRaR⟩
  · isplitr; · iexact Hctx
    iexact HaR
  imod (chan_open I Kn Sn c .aL) $$ [HaL] with ⟨HaL, HsaL, #HRaL⟩
  · isplitr; · iexact Hctx
    iexact HaL
  iapply (wp_bar I Kn Sn c _ _ (dev_prv c (k0_dev1_lt c) (k0_dev1_eq c)) (dev_nxt c (k0_dev2_lt c) (k0_dev2_eq c)) _ hA
    (fun b => by simp [four, bar_mem_obs])) $$ [HO Hbt Hba]
  · isplitr; · iexact Hctx
    isplitl [HO]; · iexact HO
    isplitl [Hbt]; · iexact Hbt
    isplitl [Hba]; · iexact Hba
    isplitr; · iexact HRxR
    isplitr; · iexact HRxL
    isplitr; · iexact HRaR
    iexact HRaL
  iintro ⟨HO, Hba, HDxR, HDxL, HDaR, HDaL⟩
  iapply (wp_init I c .xR 0 X hX) $$ [HsxR Hx]
  · isplitl [HsxR] <;> iassumption
  iintro ⟨HsxR, Hx⟩
  iapply (wp_init I c .xL 1 X hX) $$ [HsxL Hx]
  · isplitl [HsxL] <;> iassumption
  iintro ⟨HsxL, Hx⟩
  have eR : copyV (I.x c 0) = sent I .xR c 0 := rfl
  have eL : copyV (I.x c 1) = sent I .xL c 0 := rfl
  rw [eR, eL]
  unfold four
  iapply (wp_first I Kn Sn c .xR _ (dev_nxt c (k0_dev3_lt c) (k0_dev3_eq c)) (insert (.send .xL 0) (insert (.send .aR 0) (insert (.send .aL 0) (obs 1)))) (by simp [send_mem_obs])) $$ [HO HxR HsxR HDxR]
  · isplitr; · iexact Hctx
    isplitl [HO]; · iexact HO
    isplitl [HxR]; · iexact HxR
    isplitl [HsxR]; · iexact HsxR
    iexact HDxR
  iintro ⟨HO, HxR⟩
  iapply (wp_first I Kn Sn c .xL _ (dev_prv c (k0_dev4_lt c) (k0_dev4_eq c)) (insert (.send .aR 0) (insert (.send .aL 0) (obs 1))) (by simp [send_mem_obs])) $$ [HO HxL HsxL HDxL]
  · isplitr; · iexact Hctx
    isplitl [HO]; · iexact HO
    isplitl [HxL]; · iexact HxL
    isplitl [HsxL]; · iexact HsxL
    iexact HDxL
  iintro ⟨HO, HxL⟩
  iapply (wp_share I Kn Sn c .xR .aR _ (dev_nxt c (k0_dev5_lt c) (k0_dev5_eq c)) (insert (.send .aL 0) (obs 1)) (by simp [send_mem_obs]) rfl) $$ [HO HxR HaR HsaR HDaR HW Ho]
  · isplitr; · iexact Hctx
    isplitl [HO]; · iexact HO
    isplitl [HxR]; · iexact HxR
    isplitl [HaR]; · iexact HaR
    isplitl [HsaR]; · iexact HsaR
    isplitl [HDaR]; · iexact HDaR
    isplitl [HW] <;> iassumption
  iintro ⟨HO, HxR, HaR, HW, Ho⟩
  iapply (wp_share I Kn Sn c .xL .aL _ (dev_prv c (k0_dev6_lt c) (k0_dev6_eq c)) (obs 1) (by simp [send_mem_obs]) rfl) $$ [HO HxL HaL HsaL HDaL HW Ho]
  · isplitr; · iexact Hctx
    isplitl [HO]; · iexact HO
    isplitl [HxL]; · iexact HxL
    isplitl [HaL]; · iexact HaL
    isplitl [HsaL]; · iexact HsaL
    isplitl [HDaL]; · iexact HDaL
    isplitl [HW] <;> iassumption
  iintro ⟨HO, HxL, HaL, HW, Ho⟩
  iapply Hk
  isplitr [Hba Hx]
  · unfold Ring
    isplitl [HO]; · iexact HO
    isplitl [HxR]; · iexact HxR
    isplitl [HxL]; · iexact HxL
    isplitl [HaR]; · iexact HaR
    isplitl [HaL]; · iexact HaL
    isplitl [HW] <;> iassumption
  · isplitl [Hba] <;> iassumption

/-! ### The whole body -/

theorem wp_body (c : Dev nD) (X : xM.view.ty.Contents (Elt F)) (hX : Rows I c X) (f : outM.view.ty.Contents (Elt F)) :
    iprop(ctx I Kn Sn ∗ Start I c ∗ (xM.view.loc (c : Thread nD τ) ↦{fullShare} X) ∗ outM.view.loc (c : Thread nD τ) ↦{fullShare} f)
      ⊢ wpc c bodyP (fun _ => iprop(Over I c ∗ At (F := F) c .bar 1 ∗ xM.view.loc (c : Thread nD τ) ↦{fullShare} X)) := by
  have e : (bodyP : TProg F Unit) = .op .deviceId fun d0 => startP d0 >>= fun _ => loopP d0 >>= fun _ => lastP d0 >>= fun _ => endP d0 >>= pure := by
    rw [show (fun d0 : Dev nD => startP d0 >>= fun _ => loopP d0 >>= fun _ => lastP d0 >>= fun _ => endP d0 >>= pure : Dev nD → TProg F Unit)
      = fun d0 => startP d0 >>= fun _ => loopP d0 >>= fun _ => lastP d0 >>= fun _ => endP d0 from by simp only [bind_pure]]
    rfl
  have e2 : ∀ (k : Dev nD → TProg F Unit) (Q : Unit → sProp 𝕄), wpc c (.op .deviceId k) Q = wpc c (k c) Q := fun k Q => wp_deviceId 𝒱₀ (c : Thread nD τ) none Set.univ
  rw [e, e2]
  iintro ⟨#Hctx, HS, Hx, Hf⟩
  iapply (wp_start I Kn Sn c X hX) $$ [HS Hx]
  · isplitr; · iexact Hctx
    isplitl [HS] <;> iassumption
  iintro ⟨HR, Hba, Hx⟩
  iapply (wp_loop I Kn Sn c) $$ [HR]
  · isplitr; · iexact Hctx
    iexact HR
  iintro HR
  iapply (wp_last I Kn Sn c) $$ [HR]
  · isplitr; · iexact Hctx
    iexact HR
  iintro HR
  iapply (wp_end I Kn Sn c f) $$ [HR Hf]
  · isplitr; · iexact Hctx
    isplitl [HR] <;> iassumption
  iintro HO
  iapply (Entails.of_eq (wp_ret frame (wpE (defs₀ (F := F)) 𝒱₀ (c : Thread nD τ) none) Set.univ PUnit.unit
    (fun _ => iprop(Over I c ∗ At (F := F) c .bar 1 ∗ xM.view.loc (c : Thread nD τ) ↦{fullShare} X))).symm)
  imodintro
  isplitl [HO]; · iexact HO
  isplitl [Hba] <;> iassumption

end Steps

end Cert.Proof
-- ==== Proof.Close.lean ====
/- After the body every semaphore of the ring has counted all it counts: the cells are closed, their counters
   read zero, and each channel's buffer is whole again. -/
module

public import proofs.«01_k».proof.Proof.Start

@[expose] public section

set_option synthInstance.maxSize 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## A device's semaphores, the barrier and five for each channel -/

/-- A channel's five semaphores. -/
def cell5 (κ : Kind) : Fin 5 → Cell
  | 0 => .snd κ 0
  | 1 => .snd κ 1
  | 2 => .rcv κ 0
  | 3 => .rcv κ 1
  | 4 => .crd κ

theorem cell5_inj : Function.Injective fun p : Kind × Fin 5 => cell5 p.1 p.2 := by
  have h : ∀ κ κ' : Kind, ∀ i j : Fin 5, cell5 κ i = cell5 κ' j → κ = κ' ∧ i = j := by
    intro κ κ'
    cases κ <;> cases κ' <;> decide
  rintro ⟨κ, i⟩ ⟨κ', j⟩ e
  obtain ⟨rfl, rfl⟩ := h κ κ' i j e
  rfl

theorem erase_bar : Finset.univ.erase Cell.bar = Finset.univ.map ⟨fun p : Kind × Fin 5 => cell5 p.1 p.2, cell5_inj⟩ := by
  ext x
  simp only [Finset.mem_erase, Finset.mem_univ, and_true, Finset.mem_map, Function.Embedding.coeFn_mk, true_and, Prod.exists]
  constructor
  · intro h
    match x, h with
    | .snd κ 0, _ => exact ⟨κ, 0, rfl⟩
    | .snd κ 1, _ => exact ⟨κ, 1, rfl⟩
    | .rcv κ 0, _ => exact ⟨κ, 2, rfl⟩
    | .rcv κ 1, _ => exact ⟨κ, 3, rfl⟩
    | .crd κ, _ => exact ⟨κ, 4, rfl⟩
  · rintro ⟨κ, i, rfl⟩
    fin_cases i <;> intro h <;> cases h

/-- A conjunction over a device's semaphores. -/
theorem bigSep_cells {M : Type*} [URA M] (Φ : Cell → sProp M) :
    bigSep Finset.univ Φ = iprop(Φ .bar ∗ bigSep Finset.univ fun κ : Kind => bigSep Finset.univ fun i : Fin 5 => Φ (cell5 κ i)) := by
  rw [bigSep_univ_at Φ .bar, erase_bar, bigSep_map, bigSep_univ_prod]
  rfl

theorem bigSep_five {M : Type*} [URA M] (Φ : Fin 5 → sProp M) :
    bigSep Finset.univ Φ = iprop(Φ 0 ∗ Φ 1 ∗ Φ 2 ∗ Φ 3 ∗ Φ 4) :=
  bigSep_univ_eq_bigSepL [0, 1, 2, 3, 4] (by decide) (by decide) Φ

theorem bigSep_kinds {M : Type*} [URA M] (Φ : Kind → sProp M) :
    bigSep Finset.univ Φ = iprop(Φ .xR ∗ Φ .xL ∗ Φ .aR ∗ Φ .aL) :=
  bigSep_univ_eq_bigSepL [Kind.xR, Kind.xL, Kind.aR, Kind.aL] (by decide) (by decide) Φ

/-! ## Closing -/

section Steps

variable (I : Inp F) (Kn : Dev nD × Cell → ℕ) (Sn : Key → ℕ)

/-- A cell past its last round is closed. -/
theorem close (c : Dev nD) (x : Cell) (R : ℕ) (hR : ∀ r, R ≤ r → dutiesC x r = ∅) :
    iprop(ctx I Kn Sn ∗ At (F := F) c x R) ⊢ (|={Set.univ}=> semVal (cell c x) 0 : sProp 𝕄) := by
  unfold At
  iintro ⟨#Hctx, Hat, -⟩
  iapply (Rounds.cell_close ER (ringRd I) (κ := Kn (c, x)) (Set.mem_univ _) (fun h => h) (R := R)
    (fun r hr => (duties_cell I c x r).trans (hR r hr)))
  isplitr
  · iapply (ctx_cell I Kn Sn c x); iexact Hctx
  · iexact Hat

theorem duties_snd_out (κ : Kind) (s : Fin 2) (r : ℕ) (h : 16 ≤ r) : dutiesC (.snd κ s) r = ∅ := if_neg (by omega)
theorem duties_rcv_out (κ : Kind) (s : Fin 2) (r : ℕ) (h : 16 ≤ r) : dutiesC (.rcv κ s) r = ∅ := if_neg (by omega)
theorem duties_crd_out (κ : Kind) (r : ℕ) (h : 1 ≤ r) : dutiesC (.crd κ) r = ∅ := if_neg (by omega)
theorem duties_bar_out (r : ℕ) (h : 1 ≤ r) : dutiesC .bar r = ∅ := if_neg (by omega)

/-- A channel closed: its buffer whole, its five counters at zero. -/
def Shut (κ : Kind) (c : Dev nD) : sProp 𝕄 :=
  iprop(bufAny (F := F) c κ ∗ bigSep Finset.univ fun i : Fin 5 => semVal (cell c (cell5 κ i)) 0)

theorem chan_close (c : Dev nD) (κ : Kind) (v : Vec F S1x128x512 .bf16) :
    iprop(ctx I Kn Sn ∗ ChanOver κ c v) ⊢ (|={Set.univ}=> Shut (F := F) κ c : sProp 𝕄) := by
  unfold ChanOver Shut
  rw [bigSep_five]
  iintro ⟨#Hctx, Hs, Hs1, H0, H1, H2, H3, H4⟩
  imod (close I Kn Sn c (.snd κ 0) 16 (duties_snd_out κ 0)) $$ [H0] with H0
  · isplitr; · iexact Hctx
    iexact H0
  imod (close I Kn Sn c (.snd κ 1) 16 (duties_snd_out κ 1)) $$ [H1] with H1
  · isplitr; · iexact Hctx
    iexact H1
  imod (close I Kn Sn c (.rcv κ 0) 16 (duties_rcv_out κ 0)) $$ [H2] with H2
  · isplitr; · iexact Hctx
    iexact H2
  imod (close I Kn Sn c (.rcv κ 1) 16 (duties_rcv_out κ 1)) $$ [H3] with H3
  · isplitr; · iexact Hctx
    iexact H3
  imod (close I Kn Sn c (.crd κ) 1 (duties_crd_out κ)) $$ [H4] with H4
  · isplitr; · iexact Hctx
    iexact H4
  imodintro
  isplitl [Hs Hs1]
  · iapply (buf_join (F := F) c κ)
    isplitl [Hs]
    · iapply (slotPt_any (F := F) c κ 0 v); iexact Hs
    · iexact Hs1
  isplitl [H0]; · iexact H0
  isplitl [H1]; · iexact H1
  isplitl [H2]; · iexact H2
  isplitl [H3]; · iexact H3
  iexact H4

/-- All of the device's channels and its barrier closed. -/
def Final (c : Dev nD) : sProp 𝕄 :=
  iprop((bigSep Finset.univ fun κ : Kind => Shut (F := F) κ c) ∗ oAny (F := F) c ∗ semVal (cell c .bar) 0)

theorem all_close (c : Dev nD) :
    iprop(ctx I Kn Sn ∗ Over I c ∗ At (F := F) c .bar 1)
      ⊢ (|={Set.univ}=> (own c ∅ ∗ Final (F := F) c ∗ Wts I c
          ∗ outM.view.loc (c : Thread nD τ) ↦{fullShare} outB (sent I .aR (src .aR c) 31) (sent I .aL (src .aL c) 31)) : sProp 𝕄) := by
  unfold Over Final
  rw [bigSep_kinds]
  iintro ⟨#Hctx, ⟨HO, H0, H1, H2, H3, HW, Ho, Hout⟩, Hb⟩
  imod (chan_close I Kn Sn c .xR _) $$ [H0] with H0
  · isplitr; · iexact Hctx
    iexact H0
  imod (chan_close I Kn Sn c .xL _) $$ [H1] with H1
  · isplitr; · iexact Hctx
    iexact H1
  imod (chan_close I Kn Sn c .aR _) $$ [H2] with H2
  · isplitr; · iexact Hctx
    iexact H2
  imod (chan_close I Kn Sn c .aL _) $$ [H3] with H3
  · isplitr; · iexact Hctx
    iexact H3
  imod (close I Kn Sn c .bar 1 duties_bar_out) $$ [Hb] with Hb
  · isplitr; · iexact Hctx
    iexact Hb
  imodintro
  isplitl [HO]; · iexact HO
  isplitr [HW Hout]
  · isplitl [H0 H1 H2 H3]
    · isplitl [H0]; · iexact H0
      isplitl [H1]; · iexact H1
      isplitl [H2] <;> iassumption
    · isplitl [Ho] <;> iassumption
  · isplitl [HW] <;> iassumption

end Steps

end Cert.Proof
-- ==== Proof.Deal.lean ====
/- What the launch deals out: the rights to pay, the rights to wait and the rights to write, each to the device
   that uses it. -/
module

public import proofs.«01_k».proof.Proof.Close

@[expose] public section

set_option synthInstance.maxSize 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A conjunction over pairs. -/
theorem bigSep_pairs {M : Type*} [URA M] {α β : Type*} [DecidableEq α] [DecidableEq β] (s : Finset α) (t : Finset β) (Φ : α × β → sProp M) :
    bigSep (s ×ˢ t) Φ = bigSep s fun a => bigSep t fun b => Φ (a, b) := by
  induction s using Finset.induction_on with
  | empty => rw [Finset.empty_product, bigSep_empty, bigSep_empty]
  | insert a s ha ih =>
    have hd : Disjoint (t.image (Prod.mk a)) (s ×ˢ t) := by
      rw [Finset.disjoint_left]
      intro x hx hy
      obtain ⟨b, -, rfl⟩ := Finset.mem_image.mp hx
      exact ha (Finset.mem_product.mp hy).1
    rw [show insert a s ×ˢ t = t.image (Prod.mk a) ∪ s ×ˢ t from by ext ⟨x, y⟩; simp [or_and_right, eq_comm, and_comm],
      bigSep_union hd, bigSep_insert ha, ih, bigSep_image_of_injOn (fun _ _ _ _ e => (Prod.mk.inj e).2)]

/-! ## The payments of a device, one by one -/

theorem obs0_eq : obs0 = ({Ob.bar false, Ob.bar true} : Finset Ob)
    ∪ (((Finset.univ ×ˢ Finset.Ico 0 32).image fun p : Kind × ℕ => Ob.send p.1 p.2)
      ∪ (Finset.univ ×ˢ Finset.Ico 1 33).image fun p : Kind × ℕ => Ob.crd p.1 p.2) := by
  ext o
  unfold obs0
  rw [Finset.mem_insert, Finset.mem_insert, mem_four]
  cases o with
  | send κ t => simp [send_mem_obs]; omega
  | crd κ j => simp [crd_mem_obs]
  | bar b => cases b <;> simp [bar_mem_obs]

/-- A conjunction over them. -/
theorem bigSep_obs0 {M : Type*} [URA M] (Φ : Ob → sProp M) :
    bigSep obs0 Φ = iprop((Φ (.bar false) ∗ Φ (.bar true))
      ∗ (bigSep Finset.univ fun κ : Kind => bigSep (Finset.Ico 0 32) fun t => Φ (.send κ t))
      ∗ (bigSep Finset.univ fun κ : Kind => bigSep (Finset.Ico 1 33) fun j => Φ (.crd κ j))) := by
  have h1 : Disjoint ({Ob.bar false, Ob.bar true} : Finset Ob)
      (((Finset.univ ×ˢ Finset.Ico 0 32).image fun p : Kind × ℕ => Ob.send p.1 p.2)
        ∪ (Finset.univ ×ˢ Finset.Ico 1 33).image fun p : Kind × ℕ => Ob.crd p.1 p.2) := by
    rw [Finset.disjoint_left]
    intro o ho
    simp only [Finset.mem_insert, Finset.mem_singleton] at ho
    rcases ho with rfl | rfl <;> simp
  have h2 : Disjoint ((Finset.univ ×ˢ Finset.Ico 0 32).image fun p : Kind × ℕ => Ob.send p.1 p.2)
      ((Finset.univ ×ˢ Finset.Ico 1 33).image fun p : Kind × ℕ => Ob.crd p.1 p.2) := by
    rw [Finset.disjoint_left]
    intro o ho
    obtain ⟨p, -, rfl⟩ := Finset.mem_image.mp ho
    simp
  have i1 : Set.InjOn (fun p : Kind × ℕ => Ob.send p.1 p.2) (Finset.univ ×ˢ Finset.Ico 0 32 : Finset (Kind × ℕ)) := by
    rintro ⟨κ, t⟩ - ⟨κ', t'⟩ - e
    cases e; rfl
  have i2 : Set.InjOn (fun p : Kind × ℕ => Ob.crd p.1 p.2) (Finset.univ ×ˢ Finset.Ico 1 33 : Finset (Kind × ℕ)) := by
    rintro ⟨κ, t⟩ - ⟨κ', t'⟩ - e
    cases e; rfl
  rw [obs0_eq, bigSep_union h1, bigSep_union h2, bigSep_image_of_injOn i1, bigSep_image_of_injOn i2, bigSep_pairs, bigSep_pairs,
    bigSep_insert (by simp), bigSep_singleton]
  rfl

/-! ## The rights to wait -/

/-- Which of its own cells a device sees the same payment of its neighbour on. -/
def Ob.at : Ob → Cell
  | .send κ t => .rcv κ (par (t + 1))
  | .crd κ _ => .crd κ
  | .bar _ => .bar

/-- Whom a device pays, and who pays it. -/
def Ob.to : Ob → Dev nD ≃ Dev nD
  | .send κ _ => turn κ
  | .crd κ _ => (turn κ).symm
  | .bar true => turn .xR
  | .bar false => (turn .xR).symm

theorem Ob.cell_eq (c : Dev nD) : ∀ o : Ob, o.cell c = Cert.Proof.cell (o.to c) o.at
  | .send _ _ => rfl
  | .crd _ _ => rfl
  | .bar true => rfl
  | .bar false => rfl

/-- What a device may wait for. -/
def Due (c : Dev nD) : sProp 𝕄 :=
  iprop(cred (tallyAt (cell c .bar) 1 2)
    ∗ (bigSep Finset.univ fun κ : Kind => bigSep (Finset.Ico 0 32) (RcvTok (F := F) κ c))
    ∗ (bigSep Finset.univ fun κ : Kind => bigSep (Finset.Ico 1 33) (CwTok (F := F) κ c)))

omit [FloatOps F] in
theorem cred_two (g : GSem nD τ sig) (ι : ℕ) :
    iprop(cred (tallyAt g ι 1) ∗ cred (tallyAt g ι 1)) ⊢ (cred (tallyAt g ι 2) : sProp 𝕄) := by
  refine (cred_add _ _).2.trans (Entails.of_eq (congrArg cred ?_))
  unfold tallyAt
  rw [← tallyOn_add, ← Finsupp.single_add]

omit [FloatOps F] in
/-- The launch deals every device the right to wait for what it is owed. -/
theorem launch_due (c : Dev nD) : (Pipeline.launchCred (fun d => owed d obs0) c : sProp 𝕄) ⊢ Due (F := F) c := by
  have h (o : Ob) : (Pipeline.launchCred (fun d => tallyAt (o.cell d) o.lvl o.units) c : sProp 𝕄)
      ⊢ cred (tallyAt (cell c o.at) o.lvl o.units) := by
    rw [show (fun d => tallyAt (o.cell d) o.lvl o.units : Dev nD → CellTallies nD τ sig ℕ)
      = fun d => tallyAt ((((o.to d) : Dev nD) : Thread nD τ), csem o.at) o.lvl o.units from funext fun d => by rw [o.cell_eq d]]
    exact Pipeline.launchCred_tallyAt (csem o.at) o.to o.to.symm o.to.apply_symm_apply o.to.symm_apply_apply o.lvl o.units c
  unfold owed
  rw [Pipeline.launchCred_sum obs0 (fun o d => tallyAt (o.cell d) o.lvl o.units) c]
  refine (bigSep_mono fun o _ => h o).trans (show _ ⊢ (_ : sProp 𝕄) from ?_)
  rw [bigSep_obs0]
  unfold Due
  iintro ⟨⟨Hb, Hb'⟩, Hr, Hc⟩
  isplitl [Hb Hb']
  · iapply (cred_two (F := F) (cell c .bar) 1)
    isplitl [Hb]
    · iexact Hb
    · iexact Hb'
  isplitl [Hr]
  · iexact Hr
  · iexact Hc

/-! ## The rights to pay -/

/-- The duty that a device's payment discharges. -/
def tokOb (p : Dev nD × Ob) : GSem nD τ sig × ℕ × ℕ :=
  match p.2 with
  | .send _ t => (p.2.cell p.1, t / 2, 0)
  | .crd _ j => (p.2.cell p.1, 0, j)
  | .bar true => (p.2.cell p.1, 0, 0)
  | .bar false => (p.2.cell p.1, 0, 1)

/-- The duty that the same transfer discharges at home. -/
def tokSnd (p : Dev nD × Kind × ℕ) : GSem nD τ sig × ℕ × ℕ := (cell p.1 (.snd p.2.1 (par p.2.2)), p.2.2 / 2, 0)

theorem par_div {t t' : ℕ} (hp : par t = par t') (hd : t / 2 = t' / 2) : t = t' := by
  have hp : t % 2 = t' % 2 := congrArg Fin.val hp
  omega

theorem par_succ_inj {t t' : ℕ} (hp : par (t + 1) = par (t' + 1)) : par t = par t' := by
  have hp : (t + 1) % 2 = (t' + 1) % 2 := congrArg Fin.val hp
  exact Fin.ext (show t % 2 = t' % 2 by omega)

theorem tokOb_cell (p : Dev nD × Ob) : (tokOb p).1 = cell (p.2.to p.1) p.2.at := by
  rw [← Ob.cell_eq]
  unfold tokOb
  split <;> rfl

theorem tokOb_inj : Function.Injective tokOb := by
  rintro ⟨c, o⟩ ⟨c', o'⟩ e
  have e1 : cell (o.to c) o.at = cell (o'.to c') o'.at := by
    rw [← tokOb_cell (c, o), ← tokOb_cell (c', o'), e]
  obtain ⟨hc, ha⟩ := cell_inj e1
  have e2 := congrArg Prod.snd e
  have ho : o = o' := by
    cases o with
    | send κ t =>
      cases o' with
      | send κ' t' =>
        have ha : Cell.rcv κ (par (t + 1)) = Cell.rcv κ' (par (t' + 1)) := ha
        have e2 : (t / 2, 0) = (t' / 2, 0) := e2
        injection ha with hκ hp
        rw [hκ, par_div (par_succ_inj hp) (congrArg Prod.fst e2)]
      | crd κ' j => cases ha
      | bar b => cases ha
    | crd κ j =>
      cases o' with
      | send κ' t' => cases ha
      | crd κ' j' =>
        have ha : Cell.crd κ = Cell.crd κ' := ha
        have e2 : (0, j) = (0, j') := e2
        injection ha with hκ
        have e3 : j = j' := congrArg Prod.snd e2
        rw [hκ, e3]
      | bar b => cases ha
    | bar b =>
      cases o' with
      | send κ' t' => cases ha
      | crd κ' j' => cases ha
      | bar b' => cases b <;> cases b' <;> first | rfl | (have h : (1 : ℕ) = 0 := congrArg Prod.snd e2; cases h) | (have h : (0 : ℕ) = 1 := congrArg Prod.snd e2; cases h)
  subst ho
  rw [o.to.injective hc]

theorem tokSnd_inj : Function.Injective tokSnd := by
  rintro ⟨c, κ, t⟩ ⟨c', κ', t'⟩ e
  obtain ⟨hc, ha⟩ := cell_inj (congrArg Prod.fst e)
  have hc : c = c' := hc
  have ha : Cell.snd κ (par t) = Cell.snd κ' (par t') := ha
  have e2 : t / 2 = t' / 2 := congrArg (fun x : GSem nD τ sig × ℕ × ℕ => x.2.1) e
  injection ha with hκ hp
  rw [hc, hκ, par_div hp e2]

/-- All duties of the run. -/
def ringToks : Finset (GSem nD τ sig × ℕ × ℕ) :=
  (Finset.univ ×ˢ obs0).map ⟨tokOb, tokOb_inj⟩ ∪ (Finset.univ ×ˢ (Finset.univ ×ˢ Finset.Ico 0 32)).map ⟨tokSnd, tokSnd_inj⟩

theorem toks_disjoint : Disjoint ((Finset.univ ×ˢ obs0).map ⟨tokOb, tokOb_inj⟩)
    ((Finset.univ ×ˢ (Finset.univ ×ˢ Finset.Ico 0 32)).map ⟨tokSnd, tokSnd_inj⟩) := by
  rw [Finset.disjoint_left]
  intro x hx hy
  obtain ⟨⟨c, o⟩, -, rfl⟩ := Finset.mem_map.mp hx
  obtain ⟨⟨c', κ, t⟩, -, e⟩ := Finset.mem_map.mp hy
  have e1 : (tokSnd (c', κ, t)).1 = (tokOb (c, o)).1 := congrArg Prod.fst e
  rw [tokOb_cell] at e1
  have ha : Cell.snd κ (par t) = o.at := (cell_inj e1).2
  cases o <;> cases ha

/-- What a device may pay. -/
def Pay (c : Dev nD) : sProp 𝕄 :=
  iprop((dutyTok ER (cell (prv c) .bar) 0 1 ∗ dutyTok ER (cell (nxt c) .bar) 0 0)
    ∗ (bigSep Finset.univ fun κ : Kind => bigSep (Finset.Ico 0 32) fun t => dutyTok ER (cell (dst κ c) (.rcv κ (par (t + 1)))) (t / 2) 0)
    ∗ (bigSep Finset.univ fun κ : Kind => bigSep (Finset.Ico 1 33) (CrdTok (F := F) κ c)))

omit [FloatOps F] in
theorem toks_deal : (bigSep ringToks fun x => (dutyTok ER x.1 x.2.1 x.2.2 : sProp 𝕄))
    = iprop((bigSep Finset.univ fun c : Dev nD => Pay (F := F) c)
      ∗ bigSep Finset.univ fun c : Dev nD => bigSep Finset.univ fun κ : Kind => bigSep (Finset.Ico 0 32) fun t =>
          dutyTok ER (cell c (.snd κ (par t))) (t / 2) 0) := by
  unfold ringToks
  rw [bigSep_union toks_disjoint, bigSep_map, bigSep_map, bigSep_pairs, bigSep_pairs]
  refine congrArg₂ BI.sep (bigSep_congr fun c _ => ?_) (bigSep_congr fun c _ => ?_)
  · rw [bigSep_obs0]
    rfl
  · rw [bigSep_pairs]
    rfl

/-! ## The rights to write -/

/-- The slot that transfer `t` writes, and which of its writes it is. -/
def keyOf (p : Dev nD × Kind × ℕ) : Key × ℕ := ((dst p.2.1 p.1, p.2.1, par (p.2.2 + 1)), p.2.2 / 2)

theorem keyOf_inj : Function.Injective keyOf := by
  rintro ⟨c, κ, t⟩ ⟨c', κ', t'⟩ e
  have hκ : κ = κ' := congrArg (fun x : Key × ℕ => x.1.2.1) e
  subst hκ
  have hc : dst κ c = dst κ c' := congrArg (fun x : Key × ℕ => x.1.1) e
  have hp : par (t + 1) = par (t' + 1) := congrArg (fun x : Key × ℕ => x.1.2.2) e
  have ht : t / 2 = t' / 2 := congrArg Prod.snd e
  rw [(turn κ).injective hc, par_div (par_succ_inj hp) ht]

theorem keyOf_all : (Finset.univ ×ˢ Finset.range 16 : Finset (Key × ℕ))
    = (Finset.univ ×ˢ (Finset.univ ×ˢ Finset.Ico 0 32)).map ⟨keyOf, keyOf_inj⟩ := by
  ext ⟨⟨e, κ, s⟩, n⟩
  simp only [Finset.mem_product, Finset.mem_univ, true_and, Finset.mem_range, Finset.mem_map, Finset.mem_Ico, Nat.zero_le, Prod.exists,
    Function.Embedding.coeFn_mk]
  constructor
  · intro hn
    refine ⟨src κ e, κ, 2 * n + (1 - s.val), by omega, ?_⟩
    have hs : s.val < 2 := s.isLt
    unfold keyOf
    dsimp only
    rw [dst_src]
    refine Prod.ext (Prod.ext rfl (Prod.ext rfl (Fin.ext ?_))) ?_
    · show (2 * n + (1 - s.val) + 1) % 2 = s.val
      omega
    · show (2 * n + (1 - s.val)) / 2 = n
      omega
  · rintro ⟨c, κ', t, ht, h⟩
    have h : t / 2 = n := congrArg Prod.snd h
    omega

omit [FloatOps F] in
theorem writes_deal : (bigSep (Finset.univ ×ˢ Finset.range 16) fun x : Key × ℕ => (Release.writeTok ES x.1 (x.2 + 1) : sProp 𝕄))
    = bigSep Finset.univ fun c : Dev nD => bigSep Finset.univ fun κ : Kind => bigSep (Finset.Ico 0 32) fun t =>
        Release.writeTok ES (dst κ c, κ, par (t + 1)) (t / 2 + 1) := by
  rw [keyOf_all, bigSep_map, bigSep_pairs]
  refine bigSep_congr fun c _ => ?_
  rw [bigSep_pairs]
  rfl

end Cert.Proof
-- ==== Proof.Text.lean ====
/- The printed body is the steps of Prog.lean in order. -/
module

public import proofs.«01_k».proof.Proof.Prog
public import proofs.«01_k».proof.Proof.Gen.KernelIdeal.Launch

@[expose] public section

set_option synthInstance.maxSize 4096
set_option maxRecDepth 65536
set_option maxHeartbeats 4000000

noncomputable section

namespace Cert.Proof

open Cert.KernelIdeal Cert.KernelIdeal.Gen
open Idealize.ShloMosaic Idealize.SL.Sem

variable {F : FTy → Type} [FloatOps F]

/-- A trip of the loop is two hops. -/
theorem trip_eq (d0 : Dev nD) (v2 v5 v7 w1 w2 : BitVec 32) (t : Fin k0_t1_loop.trips) :
    k0_t1_body (F := F) xM (hstage0_0 0) wqM (hstage0_1 0) wkM (hstage0_2 0) wvM (hstage0_3 0) woM (hstage0_4 0) outM (hstage0_5 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 cc0_scratch15 cc0_scratch16 d0 v2 v5 v7 w1 w2 t () = tripP d0 := rfl

/-- The first two give-backs of the last hop, which the program prints in one part with the loop. -/
def tailA (d0 : Dev nD) : TProg F Unit := do
  doneP .xR 0 ⟨k0_dev23 d0, k0_dev23_lt d0⟩
  doneP .xL 0 ⟨k0_dev24 d0, k0_dev24_lt d0⟩

/-- The rest of the last hop, the end, and the finished sum of the last channel. -/
def tailB (d0 : Dev nD) : TProg F (FVec F S128x512 .f32) := do
  doneP .aR 0 ⟨k0_dev25 d0, k0_dev25_lt d0⟩
  doneP .aL 0 ⟨k0_dev26 d0, k0_dev26_lt d0⟩
  recvP .xR 1
  recvP .xL 1
  forwardP .xR 1 ⟨k0_dev27 d0, k0_dev27_lt d0⟩
  forwardP .xL 1 ⟨k0_dev28 d0, k0_dev28_lt d0⟩
  addP .xR .aR 1 ⟨k0_dev29 d0, k0_dev29_lt d0⟩
  addP .xL .aL 1 ⟨k0_dev30 d0, k0_dev30_lt d0⟩
  doneP .xR 1 ⟨k0_dev31 d0, k0_dev31_lt d0⟩
  doneP .xL 1 ⟨k0_dev32 d0, k0_dev32_lt d0⟩
  doneP .aR 1 ⟨k0_dev33 d0, k0_dev33_lt d0⟩
  doneP .aL 1 ⟨k0_dev34 d0, k0_dev34_lt d0⟩
  recvP .xR 0
  recvP .xL 0
  recvP .aR 0
  recvP .aL 0
  crdP .xR
  crdP .xL
  crdP .aR
  crdP .aL
  outP .aR 0
  let a ← loadP .aL 0
  pure (extf .f32 (shapeCast S128x512 a shapeCasts_S1x128x512_S128x512) bitsLt_bf16_f32)

/-- The last write of the output. -/
def tailC (v : FVec F S128x512 .f32) : TProg F Unit := do
  let _ ← Prog.lift (.load outM (slotRect 1).toLoadRect (View.loadsAt_vmem h_S1x128x512))
  Prog.lift (.store outM (slotRect 1) (shapeCast S1x128x512 v shapeCasts_S128x512_S1x128x512) Finset.univ
    (View.stores_vmem_bits_univ h_S1x128x512 rfl) (.inl rfl))

/-- The printed body, cut where its parts end. -/
theorem body_cut : bodyAt0 (F := F) t0_0 = (Prog.lift .deviceId >>= fun d0 =>
    startP d0 >>= fun _ => ((loopP d0 >>= fun _ => tailA d0) >>= fun _ => tailB d0) >>= tailC) := rfl

/-- The printed body is the steps in order. -/
theorem body_eq (t : Fin cfg0.N) : bodyAt0 (F := F) t = bodyP := by
  cases fin_N0 t
  rw [body_cut]
  simp only [Prog.bind_assoc]
  rfl

end Cert.Proof
-- ==== Proof.Dats.lean ====
/- The call's body against what the pipeline stages for it: from the arrays' blocks and the ring's rights to the
   finished block of the output and the ring's semaphores at zero. -/
module

public import proofs.«01_k».proof.Proof.Deal
public import proofs.«01_k».proof.Proof.Text

@[expose] public section

set_option synthInstance.maxSize 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Call

variable (m : (ℓ : Loc nD τ sig) → Buf (Elt F) ℓ) (ρ : Dev nD → PrngReg)

/-- The state a run starts from. -/
def s₀ : MemSt nD τ sig (Elt F) := ⟨m, fun _ => 0, ρ⟩

/-- What is staged of each array. -/
def xOf (c : Dev nD) : (cc0_stg0_0 : Ref sig .tc).ty.Contents (Elt F) :=
  (win0_0.blk (0 : Fin 1)).view.read (Elt F) (m ((c : Thread nD τ).loc main_arg0))
def wqOf (c : Dev nD) : (cc0_stg1_0 : Ref sig .tc).ty.Contents (Elt F) :=
  (win0_1.blk (0 : Fin 1)).view.read (Elt F) (m ((c : Thread nD τ).loc main_arg1))
def wkOf (c : Dev nD) : (cc0_stg2_0 : Ref sig .tc).ty.Contents (Elt F) :=
  (win0_2.blk (0 : Fin 1)).view.read (Elt F) (m ((c : Thread nD τ).loc main_arg2))
def wvOf (c : Dev nD) : (cc0_stg3_0 : Ref sig .tc).ty.Contents (Elt F) :=
  (win0_3.blk (0 : Fin 1)).view.read (Elt F) (m ((c : Thread nD τ).loc main_arg3))
def woOf (c : Dev nD) : (cc0_stg4_0 : Ref sig .tc).ty.Contents (Elt F) :=
  (win0_4.blk (0 : Fin 1)).view.read (Elt F) (m ((c : Thread nD τ).loc main_arg4))

/-- What the devices start from, read off their arrays. -/
def inp : Inp F where
  x c b := (xM.access (slotRect b)).read (Elt F) (xOf m c)
  wq := wqOf m
  wk := wkOf m
  wv := wvOf m
  wo := woOf m

/-- The block of the output that device `c` writes. -/
def outOf (c : Dev nD) : (cc0_stg5_0 : Ref sig .tc).ty.Contents (Elt F) :=
  outB (sent (inp m) .aR (src .aR c) 31) (sent (inp m) .aL (src .aL c) 31)

/-- What the body starts from, beside what is staged. -/
def Pre (c : Dev nD) : sProp 𝕄 :=
  iprop(BarTok (F := F) c ∗ At (F := F) c .bar 0 ∗ ChanRaw (F := F) .xR c ∗ ChanRaw (F := F) .xL c
    ∗ ChanRaw (F := F) .aR c ∗ ChanRaw (F := F) .aL c ∗ oAny (F := F) c)

def Φ₀ (c : Dev nD) : sProp 𝕄 := iprop(∃ Kn Sn, ctx (inp m) Kn Sn ∗ Pre (F := F) c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xOf m c
    | ⟨1, _⟩ => wqOf m c
    | ⟨2, _⟩ => wkOf m c
    | ⟨3, _⟩ => wvOf m c
    | ⟨4, _⟩ => woOf m c
    | ⟨5, _⟩ => outOf m c
  Φ t := match t with
    | ⟨0, _⟩ => Φ₀ m c
    | ⟨_ + 1, _⟩ => Final (F := F) c
  q _ := fullShare
  owed t := match t with
    | ⟨0, _⟩ => owed c obs0
    | ⟨_ + 1, _⟩ => owed c ∅

theorem fetch_in (w : Fin cfg0.W) (hw : w.val < 5) (t : Fin cfg0.N) : (cfg0.win w).fetch t = true := by
  rw [fin_N0 t]
  revert hw
  fin_cases w <;> first | (intro; rfl) | (intro h; exact absurd h (by decide))

omit [FloatOps F] in
theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem stg_intro (c : Dev nD) (b : Ref sig .tc) (X : b.ty.Contents (Elt F)) :
    ((c : Thread nD τ).loc b ↦{fullShare} X) ⊢ (stg c b X : sProp 𝕄) := by
  iintro H
  iexists X
  isplitr; · ipureintro; rfl
  iexact H

omit [FloatOps F] in
theorem stg_elim (c : Dev nD) (b : Ref sig .tc) (X : b.ty.Contents (Elt F)) :
    (stg c b X : sProp 𝕄) ⊢ ((c : Thread nD τ).loc b ↦{fullShare} X) := by
  iintro ⟨%f, %h, H⟩
  subst h
  iexact H

def bodyPre (c : Dev nD) : sProp 𝕄 :=
  iprop(Φ₀ m c ∗ (dats m ρ 0 c).owesAt 0 t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Final (F := F) c ∗ (dats m ρ 0 c).owesAt 0 t0_0.succ
    ∗ stg c cc0_stg0_0 (xOf m c) ∗ stg c cc0_stg1_0 (wqOf m c) ∗ stg c cc0_stg2_0 (wkOf m c)
    ∗ stg c cc0_stg3_0 (wvOf m c) ∗ stg c cc0_stg4_0 (woOf m c) ∗ stg c cc0_stg5_0 (outOf m c))

/-- Before the body an input's staging buffer holds what was fetched. -/
theorem before_x (c : Dev nD) (d) : (dats m ρ 0 c).before (0 : Fin 6) t0_0 d = xOf m c := by
  unfold Dat.before; rw [if_pos (fetch_in 0 (by decide) t0_0)]; rfl
theorem before_wq (c : Dev nD) (d) : (dats m ρ 0 c).before (1 : Fin 6) t0_0 d = wqOf m c := by
  unfold Dat.before; rw [if_pos (fetch_in 1 (by decide) t0_0)]; rfl
theorem before_wk (c : Dev nD) (d) : (dats m ρ 0 c).before (2 : Fin 6) t0_0 d = wkOf m c := by
  unfold Dat.before; rw [if_pos (fetch_in 2 (by decide) t0_0)]; rfl
theorem before_wv (c : Dev nD) (d) : (dats m ρ 0 c).before (3 : Fin 6) t0_0 d = wvOf m c := by
  unfold Dat.before; rw [if_pos (fetch_in 3 (by decide) t0_0)]; rfl
theorem before_wo (c : Dev nD) (d) : (dats m ρ 0 c).before (4 : Fin 6) t0_0 d = woOf m c := by
  unfold Dat.before; rw [if_pos (fetch_in 4 (by decide) t0_0)]; rfl

/-- The staged inputs and the body's other rights, gathered as the body wants them. -/
theorem pre_start (c : Dev nD) :
    bodyPre m ρ c ⊢ iprop(∃ Kn Sn f, ctx (inp m) Kn Sn ∗ Start (inp m) c ∗ (xM.view.loc (c : Thread nD τ) ↦{fullShare} xOf m c)
      ∗ outM.view.loc (c : Thread nD τ) ↦{fullShare} f) := by
  unfold bodyPre Φ₀ Pre Start Wts own Dat.owesAt Pipeline.owesWithin
  iintro ⟨⟨%Kn, %Sn, #Hctx, Hb, Ha, H0, H1, H2, H3, Ho⟩, ⟨%W, -, HO⟩, ⟨%d0, Hx⟩, ⟨%d1, Hq⟩, ⟨%d2, Hk⟩, ⟨%d3, Hv⟩, ⟨%d4, Hw⟩, ⟨%d5, %f, -, Hf⟩⟩
  rw [before_x, before_wq, before_wk, before_wv, before_wo]
  iexists Kn, Sn, f
  isplitr; · iexact Hctx
  isplitr [Hx Hf]
  · isplitl [HO]; · iexists W; iexact HO
    isplitl [Hb]; · iexact Hb
    isplitl [Ha]; · iexact Ha
    isplitl [H0]; · iexact H0
    isplitl [H1]; · iexact H1
    isplitl [H2]; · iexact H2
    isplitl [H3]; · iexact H3
    isplitr [Ho]
    · isplitl [Hq]; · iapply (stg_elim c cc0_stg1_0 (wqOf m c)); iexact Hq
      isplitl [Hk]; · iapply (stg_elim c cc0_stg2_0 (wkOf m c)); iexact Hk
      isplitl [Hv]; · iapply (stg_elim c cc0_stg3_0 (wvOf m c)); iexact Hv
      iapply (stg_elim c cc0_stg4_0 (woOf m c)); iexact Hw
    · iexact Ho
  · isplitl [Hx]
    · iapply (stg_elim c cc0_stg0_0 (xOf m c)); iexact Hx
    · iexact Hf

/-- What the body leaves is what the pipeline wants back. -/
theorem over_post (c : Dev nD) (Kn : Dev nD × Cell → ℕ) (Sn : Key → ℕ) :
    iprop(ctx (inp m) Kn Sn ∗ Over (inp m) c ∗ At (F := F) c .bar 1 ∗ xM.view.loc (c : Thread nD τ) ↦{fullShare} xOf m c)
      ⊢ (|={Set.univ}=> bodyPost m ρ c : sProp 𝕄) := by
  iintro ⟨#Hctx, HO, Ha, Hx⟩
  imod (all_close (inp m) Kn Sn c) $$ [HO Ha] with ⟨HO, HF, HW, Hout⟩
  · isplitr; · iexact Hctx
    isplitl [HO] <;> iassumption
  imodintro
  unfold bodyPost Dat.owesAt Pipeline.owesWithin
  isplitl [HF]; · iexact HF
  unfold own Wts
  icases HO with ⟨%W, HO⟩
  icases HW with ⟨Hq, Hk, Hv, Hw⟩
  isplitl [HO]
  · iexists W
    isplitr; · ipureintro; exact fun _ _ => Or.inl trivial
    iexact HO
  isplitl [Hx]; · iapply (stg_intro c cc0_stg0_0 (xOf m c)); iexact Hx
  isplitl [Hq]; · iapply (stg_intro c cc0_stg1_0 (wqOf m c)); iexact Hq
  isplitl [Hk]; · iapply (stg_intro c cc0_stg2_0 (wkOf m c)); iexact Hk
  isplitl [Hv]; · iapply (stg_intro c cc0_stg3_0 (wvOf m c)); iexact Hv
  isplitl [Hw]; · iapply (stg_intro c cc0_stg4_0 (woOf m c)); iexact Hw
  iapply (stg_intro c cc0_stg5_0 (outOf m c)); iexact Hout

theorem body_run (c : Dev nD) : bodyPre m ρ c ⊢ wpc (F := F) c bodyP (fun _ => bodyPost m ρ c) := by
  refine (pre_start m ρ c).trans (show _ ⊢ (_ : sProp 𝕄) from ?_)
  iintro ⟨%Kn, %Sn, %f, #Hctx, HS, Hx, Hf⟩
  iapply (wp_fupd frame (wpE (defs₀ (F := F)) 𝒱₀ (c : Thread nD τ) none) Set.univ bodyP (fun _ => bodyPost m ρ c))
  iapply (wp_wand frame (wpE (defs₀ (F := F)) 𝒱₀ (c : Thread nD τ) none) Set.univ
    (Q := fun _ => iprop(Over (inp m) c ∗ At (F := F) c .bar 1 ∗ xM.view.loc (c : Thread nD τ) ↦{fullShare} xOf m c))) $$ [HS Hx Hf]
  · iapply (wp_body (inp m) Kn Sn c (xOf m c) (fun _ => rfl) f)
    isplitr; · iexact Hctx
    isplitl [HS]; · iexact HS
    isplitl [Hx] <;> iassumption
  iintro %a ⟨HO, Ha, Hx⟩
  iapply (over_post m ρ c Kn Sn)
  isplitr; · iexact Hctx
  isplitl [HO]; · iexact HO
  isplitl [Ha] <;> iassumption

omit [FloatOps F] in
theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

set_option maxRecDepth 8000 in
/-- The body meets what the pipeline asks of it. -/
theorem body_obligation (c : Dev nD) : BodyObligation (dats (F := F) m ρ 0 c) (defs₀ (F := F)) 𝒱₀ 0 Set.univ := fun t => by
  rw [fin_N0 t]
  rw [bigSep_W, bigSep_W]
  simp only [owns_whole_eq]
  have h := body_run m ρ c
  rw [← body_eq (F := F) t0_0] at h
  exact h

end Call

end Cert.Proof
-- ==== Proof.Launch.lean ====
/- The launch: the ring's cells and slots are set up and dealt out, every device runs the call, and what the
   arrays hold at the end. -/
module

public import proofs.«01_k».proof.Proof.Dats
public import Idealize.ShloMosaic.Lib.Pipeline.CollectiveSegs

@[expose] public section

set_option synthInstance.maxSize 4096

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

section Call

variable (m : (ℓ : Loc nD τ sig) → Buf (Elt F) ℓ) (ρ : Dev nD → PrngReg)

/-- The ring's own semaphores of the call. -/
abbrev osem : Kind × Fin 5 → SemLoc sig := fun p => csem (cell5 p.1 p.2)

theorem ownSemFacts : Pipeline.OwnSemFacts cfg0.spec osem := by decide

theorem share_eq (c : Dev nD) (w : Fin cfg0.W) : (dats m ρ 0 c).share w = fullShare := by unfold Dat.share; split <;> rfl

/-! ## The ghost state -/

theorem cell_injective : Function.Injective fun p : Dev nD × Cell => cell p.1 p.2 := by
  rintro ⟨c, x⟩ ⟨c', x'⟩ e
  obtain ⟨rfl, rfl⟩ := cell_inj e
  rfl

/-- The ring's semaphores on all devices. -/
def ringCells : Finset (GSem nD τ sig) := Finset.univ.map ⟨fun p : Dev nD × Cell => cell p.1 p.2, cell_injective⟩

def u₀ : UU :=
  (initOf (Pipeline.cells cfgs cellOf_inj) (Pipeline.launchToks cfgs cellOf_inj),
    (initOf ringCells ringToks, Release.initSlots (Finset.univ : Finset Key) 16))

/-- The slots' state: their records, their readers' counts and the rights to write them. -/
def SlotsG : sProp 𝕄 :=
  iprop(∃ Sn : Key → ℕ, (bigSep Finset.univ fun k : Key => Release.slotInv ES (Sn k) k (slotAny (F := F) k.1 k.2.1 k.2.2))
    ∗ (bigSep Finset.univ fun k : Key => Release.readerAt ES k 0)
    ∗ bigSep Finset.univ fun c : Dev nD => bigSep Finset.univ fun κ : Kind => bigSep (Finset.Ico 0 32) fun t =>
        Release.writeTok ES (dst κ c, κ, par (t + 1)) (t / 2 + 1))

/-- All that the launch mints. -/
def Gall : sProp 𝕄 :=
  iprop((bigSep Finset.univ fun p : Dev nD × Cell => roundState ER (ringRd (inp m)) (cell p.1 p.2) 0)
    ∗ (bigSep Finset.univ fun p : Dev nD × Cell => reached ER (cell p.1 p.2) 0)
    ∗ (bigSep Finset.univ fun p : Dev nD × Cell => atPos ER (cell p.1 p.2) 0 ∅ 0)
    ∗ (bigSep Finset.univ fun c : Dev nD => Pay (F := F) c)
    ∗ (bigSep Finset.univ fun c : Dev nD => bigSep Finset.univ fun κ : Kind => bigSep (Finset.Ico 0 32) fun t =>
          dutyTok ER (cell c (.snd κ (par t))) (t / 2) 0)
    ∗ SlotsG (F := F))

/-- It is kept with the first device until it is dealt out. -/
def G (c : Dev nD) : sProp 𝕄 := if c = 0 then Gall m else iprop(emp)

theorem G_all : bigSep Finset.univ (G m) = Gall m := by
  rw [bigSep_univ_at (G m) 0, bigSep_congr (s := Finset.univ.erase (0 : Dev nD)) (Ψ := fun _ => (BI.emp : sProp 𝕄))
    (fun c hc => by unfold G; rw [if_neg (Finset.mem_erase.mp hc).1]; rfl), bigSep_emp_const]
  unfold G
  rw [if_pos rfl]
  exact equiv_iff.mp sep_emp

omit [FloatOps F] in
theorem fund_slots : BI.own (ES (Release.initSlots (Finset.univ : Finset Key) 16)) ⊢ (|={Set.univ}=> SlotsG (F := F) : sProp 𝕄) := by
  iintro H
  imod (Release.slots_init (Es := Set.univ) ES (Finset.univ : Finset Key) 16 (fun k : Key => slotAny (F := F) k.1 k.2.1 k.2.2)) $$ H with ⟨%Sn, -, Hi, Hr, Hw⟩
  imodintro
  unfold SlotsG
  iexists Sn
  isplitl [Hi]; · iexact Hi
  isplitl [Hr]; · iexact Hr
  iapply (Entails.of_eq (writes_deal (F := F))); iexact Hw

theorem fund_ring : iprop(BI.own (ER (initOf ringCells ringToks)) ∗ BI.own (ES (Release.initSlots (Finset.univ : Finset Key) 16)))
    ⊢ (|={Set.univ}=> bigSep Finset.univ (G m) : sProp 𝕄) := by
  have hX (Φ : GSem nD τ sig → sProp 𝕄) : bigSep ringCells Φ = bigSep Finset.univ fun p : Dev nD × Cell => Φ (cell p.1 p.2) := by
    unfold ringCells; rw [bigSep_map]; rfl
  rw [G_all]
  unfold Gall
  iintro ⟨HX, HS⟩
  imod (fund_slots (F := F)) $$ HS with HS
  imod (Rounds.fund ER (ringRd (inp m)) ringCells ringToks) $$ HX with ⟨Hst, Hr, Hat, Htok⟩
  imodintro
  ihave Hst := (Entails.of_eq (hX fun g => roundState ER (ringRd (inp m)) g 0)) $$ Hst
  ihave Hat := (Entails.of_eq (hX fun g => atPos ER g 0 ∅ 0)) $$ Hat
  ihave Hr := (Entails.of_eq (hX fun g => reached ER g 0)) $$ Hr
  ihave Htok := (Entails.of_eq (toks_deal (F := F))) $$ Htok
  icases Htok with ⟨Ht, Ht'⟩
  isplitl [Hst]; · iexact Hst
  isplitl [Hr]; · iexact Hr
  isplitl [Hat]; · iexact Hat
  isplitl [Ht]; · iexact Ht
  isplitl [Ht']; · iexact Ht'
  iexact HS

theorem fund_all : (ownU u₀ : sProp 𝕄) ⊢ |={Set.univ}=> iprop(BI.own (EP (initOf (Pipeline.cells cfgs cellOf_inj) (Pipeline.launchToks cfgs cellOf_inj)))
    ∗ bigSep Finset.univ (G m)) := by
  unfold u₀
  iintro Hu
  ihave H := (ownU_pair _ _) $$ Hu
  icases H with ⟨HP, HX⟩
  ihave HX := (own_pair_emb _ _ _) $$ HX
  imod (fund_ring m) $$ HX with HG
  imodintro
  isplitl [HP] <;> iassumption

/-! ## Dealing it out -/

omit [FloatOps F] in
theorem unscopedSems0_eq (c : Dev nD) : (unscopedSems0 c : sProp 𝕄) = semVal (cell c .bar) 0 := by
  unfold unscopedSems0; rw [bigSep_eq_bigSepL_of_eq [SemLoc.reg barS] (by decide) (by decide)]; rfl

omit [FloatOps F] in
theorem ownSems0_eq (c : Dev nD) : (Pipeline.ownSems0 (Ix := ℕ) (Name := ℕ) (U := UU) (Lvl := ℕ) (Val := Elt F) (τ := τ) osem c : sProp 𝕄)
    = bigSep Finset.univ fun κ : Kind => bigSep Finset.univ fun i : Fin 5 => semVal (cell c (cell5 κ i)) 0 := by
  unfold Pipeline.ownSems0; rw [bigSep_univ_prod]

omit [FloatOps F] in
/-- All devices' semaphores of the ring are at zero. -/
theorem sems0_eq : (bigSep Finset.univ fun c : Dev nD =>
      iprop(Pipeline.ownSems0 (Ix := ℕ) (Name := ℕ) (U := UU) (Lvl := ℕ) (Val := Elt F) (τ := τ) osem c ∗ unscopedSems0 c) : sProp 𝕄)
    ⊢ bigSep Finset.univ fun p : Dev nD × Cell => semVal (cell p.1 p.2) 0 := by
  rw [bigSep_univ_prod]
  refine bigSep_mono fun c _ => (show _ ⊢ (_ : sProp 𝕄) from ?_)
  rw [ownSems0_eq, unscopedSems0_eq, bigSep_cells]
  iintro ⟨H, Hb⟩
  isplitl [Hb] <;> iassumption

/-- What a device is dealt. -/
def Lin (c : Dev nD) : sProp 𝕄 :=
  iprop((bigSep Finset.univ fun x : Cell => atPos ER (cell c x) 0 ∅ 0)
    ∗ (bigSep Finset.univ fun κ : Kind => bigSep Finset.univ fun s : Fin 2 => Release.readerAt ES (c, κ, s) 0)
    ∗ Pay (F := F) c
    ∗ (bigSep Finset.univ fun κ : Kind => bigSep (Finset.Ico 0 32) fun t => dutyTok ER (cell c (.snd κ (par t))) (t / 2) 0)
    ∗ (bigSep Finset.univ fun κ : Kind => bigSep (Finset.Ico 0 32) fun t => Release.writeTok ES (dst κ c, κ, par (t + 1)) (t / 2 + 1)))

/-- What all devices know. -/
def recs (Kn : Dev nD × Cell → ℕ) (Sn : Key → ℕ) : sProp 𝕄 :=
  iprop(bigSep Finset.univ (fun p : Dev nD × Cell => cellInv ER (ringRd (inp m)) (Kn p) (cell p.1 p.2))
    ∗ bigSep Finset.univ (fun k : Key => Release.slotInv ES (Sn k) k (slotAny (F := F) k.1 k.2.1 k.2.2))
    ∗ bigSep Finset.univ (fun p : Dev nD × Cell => reached ER (cell p.1 p.2) 0))

instance recs_persistent (Kn : Dev nD × Cell → ℕ) (Sn : Key → ℕ) : BI.Persistent (recs m Kn Sn) := by unfold recs; infer_instance

def G' (c : Dev nD) : sProp 𝕄 := iprop(∃ Kn Sn, recs m Kn Sn ∗ Lin (F := F) c)

omit [FloatOps F] in
theorem with_persistent {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The cells' records are made from the semaphores and their round states. -/
theorem cells_alloc : iprop((bigSep Finset.univ fun p : Dev nD × Cell => semVal (cell p.1 p.2) 0)
      ∗ bigSep Finset.univ fun p : Dev nD × Cell => roundState ER (ringRd (inp m)) (cell p.1 p.2) 0)
    ⊢ (|={Set.univ}=> ∃ Kn : Dev nD × Cell → ℕ, bigSep Finset.univ fun p : Dev nD × Cell => cellInv ER (ringRd (inp m)) (Kn p) (cell p.1 p.2) : sProp 𝕄) := by
  rw [← bigSep_sep']
  exact ((bigSep_mono fun p _ => (Rounds.body_intro ER (ringRd (inp m)) (cell p.1 p.2)).trans inv_alloc).trans (bigSep_fupd _ _)).trans
    (BI.fupd_mono (BI.bigSep_exists_pi Finset.univ (fun (p : Dev nD × Cell) (κ : ℕ) => (cellInv ER (ringRd (inp m)) κ (cell p.1 p.2) : sProp 𝕄))))

omit [FloatOps F] in
theorem lin_deal : bigSep Finset.univ (Lin (F := F))
    = iprop((bigSep Finset.univ fun c : Dev nD => bigSep Finset.univ fun x : Cell => atPos ER (cell c x) 0 ∅ 0)
      ∗ (bigSep Finset.univ fun c : Dev nD => bigSep Finset.univ fun κ : Kind => bigSep Finset.univ fun s : Fin 2 => Release.readerAt ES (c, κ, s) 0)
      ∗ (bigSep Finset.univ fun c : Dev nD => Pay (F := F) c)
      ∗ (bigSep Finset.univ fun c : Dev nD => bigSep Finset.univ fun κ : Kind => bigSep (Finset.Ico 0 32) fun t => dutyTok ER (cell c (.snd κ (par t))) (t / 2) 0)
      ∗ (bigSep Finset.univ fun c : Dev nD => bigSep Finset.univ fun κ : Kind => bigSep (Finset.Ico 0 32) fun t => Release.writeTok ES (dst κ c, κ, par (t + 1)) (t / 2 + 1))) := by
  unfold Lin
  simp only [bigSep_sep']

theorem glob : (bigSep Finset.univ fun c => iprop(Pipeline.ownSems0 (Ix := ℕ) (Name := ℕ) (U := UU) (Lvl := ℕ) (Val := Elt F) (τ := τ) osem c
      ∗ unscopedSems0 c ∗ G m c) : sProp 𝕄)
    ⊢ |={Set.univ}=> bigSep Finset.univ (G' m) := by
  have hs : ∀ c : Dev nD, (iprop(Pipeline.ownSems0 (Ix := ℕ) (Name := ℕ) (U := UU) (Lvl := ℕ) (Val := Elt F) (τ := τ) osem c
      ∗ unscopedSems0 c ∗ G m c) : sProp 𝕄)
      = iprop((Pipeline.ownSems0 (Ix := ℕ) (Name := ℕ) (U := UU) (Lvl := ℕ) (Val := Elt F) (τ := τ) osem c ∗ unscopedSems0 c) ∗ G m c) :=
    fun c => by
      have h : (iprop((Pipeline.ownSems0 (Ix := ℕ) (Name := ℕ) (U := UU) (Lvl := ℕ) (Val := Elt F) (τ := τ) osem c ∗ unscopedSems0 c) ∗ G m c) : sProp 𝕄) ⊣⊢ _ := Laws.sep_assoc
      exact (show _ = _ from equiv_iff.mp ⟨h.1, h.2⟩).symm
  rw [bigSep_congr fun c _ => hs c, bigSep_sep', G_all]
  unfold Gall SlotsG
  iintro ⟨Hv, Hst, Hr, Hat, Hpay, Hsnd, ⟨%Sn, Hi, Hrd, Hwr⟩⟩
  ihave Hv := (sems0_eq (F := F)) $$ Hv
  imod (cells_alloc m) $$ [Hv Hst] with ⟨%Kn, Hc⟩
  · isplitl [Hv] <;> iassumption
  imodintro
  iapply (with_persistent (R := recs m Kn Sn) (Φ := Lin (F := F)) (Ψ := G' m) fun c _ => by
    unfold G'
    iintro ⟨HR, HL⟩
    iexists Kn, Sn
    isplitl [HR] <;> iassumption)
  isplitl [Hc Hi Hr]
  · unfold recs
    isplitl [Hc]; · iexact Hc
    isplitl [Hi] <;> iassumption
  · iapply (show _ ⊢ bigSep Finset.univ (Lin (F := F)) from Entails.of_eq (lin_deal (F := F)).symm)
    ihave Hat := (Entails.of_eq (bigSep_univ_prod (fun p : Dev nD × Cell => (atPos ER (cell p.1 p.2) 0 ∅ 0 : sProp 𝕄)))) $$ Hat
    ihave Hrd := (Entails.of_eq ((bigSep_univ_prod (fun k : Key => (Release.readerAt ES k 0 : sProp 𝕄))).trans
      (bigSep_congr (s := Finset.univ) (fun (c : Dev nD) _ => bigSep_univ_prod (fun k : Kind × Fin 2 => (Release.readerAt ES ((c, k) : Key) 0 : sProp 𝕄)))))) $$ Hrd
    isplitl [Hat]; · iexact Hat
    isplitl [Hrd]; · iexact Hrd
    isplitl [Hpay]; · iexact Hpay
    isplitl [Hsnd]; · iexact Hsnd
    iexact Hwr

/-! ## What a device starts from -/

/-- What a device is dealt, with the order of waits and its rights to wait. -/
def start (c : Dev nD) : sProp 𝕄 := iprop(∃ Kn Sn, ctx (inp m) Kn Sn ∗ Lin (F := F) c ∗ Due (F := F) c)

theorem start_intro (c : Dev nD) :
    iprop(Pipeline.unscopedRestP Pipeline.Prefetch.none cfg0.spec c (fun b => m ((c : Thread nD τ).loc b)) ∗ levAts L lv
        ∗ Pipeline.launchCred (fun d => owed d obs0) c ∗ prngReg c (ρ c) ∗ G' m c)
      ⊢ |={Set.univ}=> iprop(start m c ∗ emp) := by
  unfold G' start
  iintro ⟨-, Hlev, Hcr, -, ⟨%Kn, %Sn, HR, HL⟩⟩
  ihave Hc := (launch_due (F := F) c) $$ Hcr
  imodintro
  isplitl
  · iexists Kn, Sn
    unfold ctx recs
    icases HR with ⟨H0, H1, H2⟩
    isplitl [H0 H1 H2 Hlev]
    · isplitl [H0]; · iexact H0
      isplitl [H1]; · iexact H1
      isplitl [H2] <;> iassumption
    · isplitl [HL] <;> iassumption
  · iempintro

omit [FloatOps F] in
theorem bigSep_two {M : Type*} [URA M] (Φ : Fin 2 → sProp M) : bigSep Finset.univ Φ = iprop(Φ 0 ∗ Φ 1) :=
  bigSep_univ_eq_bigSepL [0, 1] (by decide) (by decide) Φ

/-- A channel's part of what is dealt. -/
def ChanLin (κ : Kind) (c : Dev nD) : sProp 𝕄 :=
  iprop((bigSep Finset.univ fun i : Fin 5 => atPos ER (cell c (cell5 κ i)) 0 ∅ 0)
    ∗ (bigSep Finset.univ fun s : Fin 2 => Release.readerAt ES (c, κ, s) 0)
    ∗ bufAny (F := F) c κ
    ∗ (bigSep (Finset.Ico 0 32) fun t => dutyTok ER (cell c (.snd κ (par t))) (t / 2) 0)
    ∗ (bigSep (Finset.Ico 0 32) fun t => dutyTok ER (cell (dst κ c) (.rcv κ (par (t + 1)))) (t / 2) 0)
    ∗ (bigSep (Finset.Ico 0 32) fun t => Release.writeTok ES (dst κ c, κ, par (t + 1)) (t / 2 + 1))
    ∗ bigSep (Finset.Ico 1 33) (CrdTok (F := F) κ c)
    ∗ bigSep (Finset.Ico 0 32) (RcvTok (F := F) κ c)
    ∗ bigSep (Finset.Ico 1 33) (CwTok (F := F) κ c))

theorem chan_raw (Kn : Dev nD × Cell → ℕ) (Sn : Key → ℕ) (κ : Kind) (c : Dev nD) :
    iprop(ctx (inp m) Kn Sn ∗ ChanLin (F := F) κ c) ⊢ ChanRaw (F := F) κ c := by
  unfold ChanLin ChanRaw Toks At
  rw [bigSep_five, bigSep_two]
  iintro ⟨#Hctx, ⟨Ha0, Ha1, Ha2, Ha3, Ha4⟩, ⟨Hr0, Hr1⟩, Hb, Hs, Hd, Hw, Hc, Hv, Hq⟩
  isplitl [Ha0]
  · isplitl [Ha0]; · iexact Ha0
    iapply (ctx_reached (inp m) Kn Sn c (.snd κ 0)); iexact Hctx
  isplitl [Ha1]
  · isplitl [Ha1]; · iexact Ha1
    iapply (ctx_reached (inp m) Kn Sn c (.snd κ 1)); iexact Hctx
  isplitl [Ha2]
  · isplitl [Ha2]; · iexact Ha2
    iapply (ctx_reached (inp m) Kn Sn c (.rcv κ 0)); iexact Hctx
  isplitl [Ha3]
  · isplitl [Ha3]; · iexact Ha3
    iapply (ctx_reached (inp m) Kn Sn c (.rcv κ 1)); iexact Hctx
  isplitl [Ha4]
  · isplitl [Ha4]; · iexact Ha4
    iapply (ctx_reached (inp m) Kn Sn c (.crd κ)); iexact Hctx
  isplitl [Hr0]; · iexact Hr0
  isplitl [Hr1]; · iexact Hr1
  isplitl [Hb]; · iexact Hb
  isplitl [Hs Hd Hw]
  · unfold SendTok
    rw [bigSep_sep', bigSep_sep']
    isplitl [Hs]; · iexact Hs
    isplitl [Hd] <;> iassumption
  isplitl [Hc]; · iexact Hc
  isplitl [Hv] <;> iassumption

omit [FloatOps F] in
/-- The call's own buffers: the channels' and the heads'. -/
theorem scoped_bufs (c : Dev nD) : (Pipeline.scopedRest cfg0.spec c : sProp 𝕄)
    = iprop((bigSep Finset.univ fun κ : Kind => bufAny (F := F) c κ) ∗ oAny (F := F) c) := by
  have e : (Pipeline.scopedRest cfg0.spec c : sProp 𝕄)
      = iprop(bufAny (F := F) c .xR ∗ bufAny (F := F) c .aR ∗ bufAny (F := F) c .xL ∗ bufAny (F := F) c .aL ∗ oAny (F := F) c) :=
    scopedRest0_eq c
  rw [e, bigSep_kinds]
  refine equiv_iff.mp ⟨?_, ?_⟩
  · show _ ⊢ (_ : sProp 𝕄)
    iintro ⟨H0, H1, H2, H3, H4⟩
    isplitr [H4]
    · isplitl [H0]; · iexact H0
      isplitl [H2]; · iexact H2
      isplitl [H1] <;> iassumption
    · iexact H4
  · show _ ⊢ (_ : sProp 𝕄)
    iintro ⟨⟨H0, H2, H1, H3⟩, H4⟩
    isplitl [H0]; · iexact H0
    isplitl [H1]; · iexact H1
    isplitl [H2]; · iexact H2
    isplitl [H3] <;> iassumption

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold start Φ₀ Pre Lin Due Pay
  rw [bigSep_cells]
  iintro ⟨⟨%Kn, %Sn, #Hctx, ⟨⟨Hb, Ha⟩, Hr, ⟨⟨Hd0, Hd1⟩, Hd, Hc⟩, Hs, Hw⟩, ⟨Hb2, Hv, Hq⟩⟩, -, Hsc⟩
  ihave Hsc := (Entails.of_eq (scoped_bufs (F := F) c)) $$ Hsc
  icases Hsc with ⟨Hbuf, Ho⟩
  iexists Kn, Sn
  isplitr; · iexact Hctx
  isplitl [Hd0 Hd1 Hb2]
  · unfold BarTok
    isplitl [Hd0]; · iexact Hd0
    isplitl [Hd1] <;> iassumption
  isplitl [Hb]
  · unfold At
    isplitl [Hb]; · iexact Hb
    iapply (ctx_reached (inp m) Kn Sn c .bar); iexact Hctx
  ihave H := (with_persistent (R := ctx (inp m) Kn Sn) (Φ := fun κ => ChanLin (F := F) κ c) (Ψ := fun κ => ChanRaw (F := F) κ c)
    (S := (Finset.univ : Finset Kind)) fun κ _ => chan_raw m Kn Sn κ c) $$ [Ha Hr Hbuf Hs Hd Hw Hc Hv Hq]
  · isplitr; · iexact Hctx
    unfold ChanLin
    rw [bigSep_sep', bigSep_sep', bigSep_sep', bigSep_sep', bigSep_sep', bigSep_sep', bigSep_sep', bigSep_sep']
    isplitl [Ha]; · iexact Ha
    isplitl [Hr]; · iexact Hr
    isplitl [Hbuf]; · iexact Hbuf
    isplitl [Hs]; · iexact Hs
    isplitl [Hd]; · iexact Hd
    isplitl [Hw]; · iexact Hw
    isplitl [Hc]; · iexact Hc
    isplitl [Hv] <;> iassumption
  ihave H := (Entails.of_eq (bigSep_kinds (fun κ => ChanRaw (F := F) κ c))) $$ H
  icases H with ⟨H0, H1, H2, H3⟩
  isplitl [H0]; · iexact H0
  isplitl [H1]; · iexact H1
  isplitl [H2]; · iexact H2
  isplitl [H3] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Final (F := F) c from rfl, ownSems0_eq, unscopedSems0_eq]
  unfold Final Shut
  rw [bigSep_sep']
  iintro ⟨⟨Hb, Hs⟩, Ho, Hz⟩
  isplitl [Hz]; · iexact Hz
  isplitl [Hs]; · iexact Hs
  iapply (Entails.of_eq (scoped_bufs (F := F) c).symm)
  isplitl [Hb] <;> iassumption

omit [FloatOps F] in
theorem above_obs0 : Above 0 obs0 := by
  unfold obs0
  exact Above_insert (by simp only [Ob.lvl]; omega) (Above_insert (by simp only [Ob.lvl]; omega)
    (Above_four (fun κ => by simp only [Ob.lvl]; omega) (Above_mono (by omega) (Above_obs 1))))

theorem waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact @mayWait F _ c _ 0 obs0 (by decide) above_obs0
    · exact @mayWait F _ c _ 0 ∅ (by decide) (fun o ho => absurd ho (Finset.notMem_empty o))

/-! ## The run -/

/-- What the arrays hold at the end. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- On the mesh, for any float values and from any memory with the semaphores at zero, every run ends, with the
    arrays as computed and all semaphores at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => owed d obs0) (howed₀ := fun _ => rfl) (howedN := fun c => owed_empty c)
    (L := L) (lv := lv) (hL := L_of_ne) (hwaits := waits m ρ)
    (G := G m) (G' := G' m) (u₀ := u₀) (hu₀ := fund_all m) (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Call

end Cert.Proof
-- ==== Proof.Frames.lean ====
/- The kernel leaves its arguments as they were and its semaphores at zero, for any float values; so do the kernel as
   printed, whose program is the same text, and the reference. -/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Proof

open Idealize.ShloMosaic Idealize.ShloMosaic.TcCoe Idealize.SL.Sem

section Run

open Cert.KernelIdeal Cert.KernelIdeal.Gen

variable {F : FTy → Type} [FloatOps F] (m : (ℓ : Loc nD τ sig) → Buf (Elt F) ℓ) (ρ : Dev nD → PrngReg)

/-- A device's arguments are as they were. -/
abbrev Kept (c : Dev nD) (s : MemSt nD τ sig (Elt F)) : Prop :=
  s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)

/-- What the program leaves: the result as computed, and its arguments as they were. -/
abbrev Left (c : Dev nD) (s : MemSt nD τ sig (Elt F)) : Prop :=
  s.mem ((c.tc : Thread nD τ).loc main_v1) = outOf m c ∧ Kept m c s

theorem out_whole (c : Dev nD) : (dats m ρ 0 c).arrAt 5 cfg0.N = outOf m c := by
  have h : (win0_5.blk t0_0).view.read (Elt F) ((dats m ρ 0 c).arrAt 5 cfg0.N) = outOf m c := by
    rw [show cfg0.N = (t0_0 : Fin cfg0.N).val + 1 from rfl, (dats m ρ 0 c).arrAt_succ 5 t0_0,
      show (cfg0.win 5).flush t0_0 = true from by decide, if_pos rfl]
    exact View.read_write_univ _ _
  have hz : (fun a => (win0_5.index t0_0) a * main_v1.ty.shape.size a) = fun _ => 0 :=
    funext fun a => by fin_cases a <;> decide
  rw [← h]
  exact (Memref.read_access_unit_zero (Elt F) main_v1 hz (fun a => by fin_cases a <;> decide) _).symm

theorem left_of_QC {r : PUnit × MemSt nD τ sig (Elt F)} (h : QC m ρ r) (c : Dev nD) : Left m c r.2 :=
  ⟨(h c 5).trans (out_whole m ρ c), (h c 0).trans ((dats m ρ 0 c).arrAt_in 0 rfl _), (h c 1).trans ((dats m ρ 0 c).arrAt_in 1 rfl _),
    (h c 2).trans ((dats m ρ 0 c).arrAt_in 2 rfl _), (h c 3).trans ((dats m ρ 0 c).arrAt_in 3 rfl _),
    (h c 4).trans ((dats m ρ 0 c).arrAt_in 4 rfl _)⟩

theorem run_left : θ_run defs (onTc (τ := τ) (main (F := F))) ⟨m, fun _ => 0, ρ⟩
    (fun r => (∀ c : Dev nD, Left m c r.2) ∧ r.2.sem = fun _ => 0) :=
  (θ_run defs _ _).mono (fun _ h => ⟨fun c => left_of_QC m ρ h.1 c, h.2⟩) (run_main m ρ)

end Run

theorem frame_all {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩
      (fun r => (∀ c : Dev Cert.KernelIdeal.nD, Kept m c r.2) ∧ r.2.sem = fun _ => 0) :=
  (θ_run _ _ _).mono (fun _ h => ⟨fun c => (h.1 c).2, h.2⟩) (run_left m ρ)

/-- The kernel as printed has the same bodies … -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => ?_)
  match l with
  | ⟨0, _⟩ => rfl
  | ⟨_ + 1, h⟩ => exact absurd h (Nat.not_lt.2 (Nat.le_add_left _ _))

/-- … so the same definitions. -/
theorem defs_eq {F : FTy → Type} [FloatOps F] : Cert.Kernel.defs (F := F) = Cert.KernelIdeal.defs (F := F) := by
  unfold Cert.Kernel.defs Cert.KernelIdeal.defs
  exact congrArg (Pipeline.defs (Cert.Kernel.pcfgs (F := F))) bodies_eq

theorem frame_kernel : Cert.quiescent_Kernel := fun m ρ _ => by
  rw [defs_eq]
  exact frame_all (F := Bits) m ρ

theorem frame_kernelIdeal : Cert.quiescent_KernelIdeal := fun m ρ _ => frame_all (F := Ideal) m ρ

theorem frame_reference : Cert.quiescent_ReferenceIdeal := fun m ρ _ =>
  (θ_run Cert.ReferenceIdeal.defs _ _).mono (fun _ h => ⟨fun c => (h c).2, sem_eq_zero_of_no_sems rfl _⟩)
    (Cert.ReferenceIdeal.Value.run (F := Ideal) m ρ)

end Cert.Proof
-- ==== Proof.Value.lean ====
/- What the kernel computes, over the extended reals: a device's heads on some rows, its share of the output rows, and
   the sum of all devices' shares that comes back to a device after the whole turn of the ring. -/
module

public import proofs.«01_k».proof.Proof.Dats
public import Idealize.ShloMosaic.PureOps.Ideal
public import Idealize.ShloMosaic.Lib.Pointwise

@[expose] public section

set_option synthInstance.maxSize 4096

noncomputable section

namespace Cert.Proof

open Cert.KernelIdeal Cert.KernelIdeal.Gen
open Idealize.ShloMosaic

/-- One head's output from its queries, keys and values. -/
def headE (q k v : Fin 128 → Fin 64 → EReal) (i : Fin 128) (e : Fin 64) : EReal :=
  Ideal.div (∑ j : Fin 128, Ideal.exp ((∑ d : Fin 64, q i d * k j d) * Ideal.ofBits .f32 0x3E000000#32) * v j e)
    (∑ j : Fin 128, Ideal.exp ((∑ d : Fin 64, q i d * k j d) * Ideal.ofBits .f32 0x3E000000#32))

/-! ## The values of the program at an index -/

theorem projV_at (x : Vec Ideal S1x128x512 .bf16) (w : Vec Ideal S512x512 .bf16) (i : Fin 128) (k : Fin 512) :
    projV (F := Ideal) x w (ix2 i k) = ∑ a : Fin 512, x (ix3 0 i a) * w (ix2 a k) := by
  pointwise [projV]

theorem headV_at (h : Fin 8) (q k v : Vec Ideal S128x512 .bf16) (i : Fin 128) (e : Fin 64) :
    headV (F := Ideal) h q k v (ix2 i e)
      = headE (fun i d => q (ix2 i ⟨64 * h.val + d.val, by omega⟩)) (fun i d => k (ix2 i ⟨64 * h.val + d.val, by omega⟩))
          (fun i d => v (ix2 i ⟨64 * h.val + d.val, by omega⟩)) i e := by
  unfold headE
  pointwise [headV, expV]

theorem shareV_at (o : Vec Ideal S128x512 .bf16) (w : Vec Ideal S512x512 .bf16) (i : Fin 128) (n : Fin 512) :
    shareV (F := Ideal) o w (ix2 i n) = ∑ k : Fin 512, o (ix2 i k) * w (ix2 k n) := by
  pointwise [shareV]

theorem firstV_at (o : Vec Ideal S128x512 .bf16) (w : Vec Ideal S512x512 .bf16) (i : Fin 128) (n : Fin 512) :
    firstV (F := Ideal) o w (ix3 0 i n) = ∑ k : Fin 512, o (ix2 i k) * w (ix2 k n) := by
  pointwise [firstV, shareV]

theorem nextV_at (o : Vec Ideal S128x512 .bf16) (w : Vec Ideal S512x512 .bf16) (a : Vec Ideal S1x128x512 .bf16) (i : Fin 128)
    (n : Fin 512) :
    nextV (F := Ideal) o w a (ix3 0 i n) = a (ix3 0 i n) + ∑ k : Fin 512, o (ix2 i k) * w (ix2 k n) := by
  pointwise [nextV, shareV]

theorem copyV_at (x : Vec Ideal S1x128x512 .bf16) (i : Fin 128) (n : Fin 512) :
    copyV (F := Ideal) x (ix3 0 i n) = x (ix3 0 i n) := by
  pointwise [copyV]

theorem outV_at (x : Vec Ideal S1x128x512 .bf16) (i : Fin 128) (n : Fin 512) :
    outV (F := Ideal) x (ix3 0 i n) = x (ix3 0 i n) := by
  pointwise [outV]

/-- An index of a slot. -/
theorem eq_slot (j : S1x128x512.Idx) : j = ix3 0 (j 1) (j 2) := by
  funext a
  match a with
  | ⟨0, _⟩ => exact Fin.ext (by have h : (j 0).val < 1 := (j 0).isLt; show (j 0).val = 0; omega)
  | ⟨1, _⟩ => rfl
  | ⟨2, _⟩ => rfl

theorem copyV_eq (x : Vec Ideal S1x128x512 .bf16) : copyV (F := Ideal) x = x := by
  funext j
  rw [eq_slot j]
  exact copyV_at x _ _

/-! ## A device's share -/

/-- The queries, keys or values of one head of a device. -/
def partE (x : Vec Ideal S1x128x512 .bf16) (w : Vec Ideal S512x512 .bf16) (h : Fin 8) (i : Fin 128) (d : Fin 64) : EReal :=
  ∑ a : Fin 512, x (ix3 0 i a) * w (ix2 a ⟨64 * h.val + d.val, by omega⟩)

/-- A device's share of the output rows. -/
def shareE (I : Inp Ideal) (c : Dev nD) (x : Vec Ideal S1x128x512 .bf16) (i : Fin 128) (n : Fin 512) : EReal :=
  ∑ k : Fin 512, headE (partE x (I.wq c) ⟨k.val / 64, by omega⟩) (partE x (I.wk c) ⟨k.val / 64, by omega⟩)
    (partE x (I.wv c) ⟨k.val / 64, by omega⟩) i ⟨k.val % 64, by omega⟩ * I.wo c (ix2 k n)

theorem attnV_at (I : Inp Ideal) (c : Dev nD) (x : Vec Ideal S1x128x512 .bf16) (i : Fin 128) (k : Fin 512) :
    attnV I c x (ix2 i k) = headE (partE x (I.wq c) ⟨k.val / 64, by omega⟩) (partE x (I.wk c) ⟨k.val / 64, by omega⟩)
      (partE x (I.wv c) ⟨k.val / 64, by omega⟩) i ⟨k.val % 64, by omega⟩ := by
  have hi : (fun | ⟨0, _⟩ => i | ⟨1, _⟩ => ⟨k.val % 64, Nat.mod_lt _ (by decide)⟩ : S128x64.Idx) = ix2 i ⟨k.val % 64, by omega⟩ := by
    funext a
    match a with
    | ⟨0, _⟩ => rfl
    | ⟨1, _⟩ => rfl
  show headV (F := Ideal) ⟨k.val / 64, _⟩ _ _ _ _ = _
  refine (congrArg _ hi).trans ((headV_at _ _ _ _ _ _).trans ?_)
  simp only [projV_at]
  rfl

/-! ## The turn of the ring -/

theorem sentX_eq (I : Inp Ideal) (κ : Kind) (t : ℕ) (c : Dev nD) : sentX I κ c t = I.x ((src κ)^[t] c) (batch κ) := by
  induction t generalizing c with
  | zero => exact copyV_eq _
  | succ t ih => exact ih (src κ c)

theorem sentA_eq (I : Inp Ideal) (κ : Kind) (t : ℕ) (c : Dev nD) (i : Fin 128) (n : Fin 512) :
    sentA I κ c t (ix3 0 i n)
      = ∑ s ∈ Finset.range (t + 1), shareE I ((src κ)^[s] c) (I.x ((src κ)^[t] c) (batch κ)) i n := by
  induction t generalizing c with
  | zero =>
    rw [Finset.sum_range_one]
    refine (firstV_at _ _ _ _).trans ?_
    simp only [attnV_at, sentX_eq]
    rfl
  | succ t ih =>
    refine (nextV_at _ _ _ _ _).trans ?_
    rw [ih, Finset.sum_range_succ' _ (t + 1)]
    simp only [attnV_at, sentX_eq]
    rfl

theorem prv_iter (s : ℕ) (c : Dev nD) : ((prv)^[s] c).val = (c.val + 31 * s) % 32 := by
  have hc : c.val < 32 := c.isLt
  induction s generalizing c with
  | zero => exact (Nat.mod_eq_of_lt hc).symm
  | succ s ih =>
    rw [Function.iterate_succ_apply, ih _ (prv c).isLt]
    show ((c.val + 31) % 32 + 31 * s) % 32 = _
    omega

theorem nxt_iter (s : ℕ) (c : Dev nD) : ((nxt)^[s] c).val = (c.val + s) % 32 := by
  have hc : c.val < 32 := c.isLt
  induction s generalizing c with
  | zero => exact (Nat.mod_eq_of_lt hc).symm
  | succ s ih =>
    rw [Function.iterate_succ_apply, ih _ (nxt c).isLt]
    show ((c.val + 1) % 32 + s) % 32 = _
    omega

/-- After 32 steps one is back. -/
theorem src_back (κ : Kind) (c : Dev nD) : (src κ)^[31] (src κ c) = c := by
  rw [← Function.iterate_succ_apply]
  have hR : (prv)^[32] c = c := Fin.ext ((prv_iter 32 c).trans (by have h : c.val < 32 := c.isLt; omega))
  have hL : (nxt)^[32] c = c := Fin.ext ((nxt_iter 32 c).trans (by have h : c.val < 32 := c.isLt; omega))
  cases κ
  · exact hR
  · exact hR
  · exact hL
  · exact hL

/-- The 32 steps meet every device once. -/
theorem sum_turn (κ : Kind) (c : Dev nD) (f : Dev nD → EReal) :
    ∑ s ∈ Finset.range 32, f ((src κ)^[s] (src κ c)) = ∑ d : Fin 32, f d := by
  have hR : ∀ c : Fin 32, ∑ s ∈ Finset.range 32, f ((prv)^[s] c) = ∑ d : Fin 32, f d := fun c => by
    rw [Finset.sum_range, ← Equiv.sum_comp (Equiv.subLeft c) f]
    exact Finset.sum_congr rfl fun s _ => congrArg f (Fin.ext ((prv_iter s c).trans
      (show _ = (32 - s.val + c.val) % 32 by omega)))
  have hL : ∀ c : Fin 32, ∑ s ∈ Finset.range 32, f ((nxt)^[s] c) = ∑ d : Fin 32, f d := fun c => by
    rw [Finset.sum_range, ← Equiv.sum_comp (Equiv.addLeft c) f]
    exact Finset.sum_congr rfl fun s _ => congrArg f (Fin.ext (nxt_iter s c))
  cases κ
  · exact hR _
  · exact hR _
  · exact hL _
  · exact hL _

/-- **What comes back to a device is the sum of all devices' shares of its rows.** -/
theorem sentA_back (I : Inp Ideal) (κ : Kind) (c : Dev nD) (i : Fin 128) (n : Fin 512) :
    sentA I κ (src κ c) 31 (ix3 0 i n) = ∑ d : Fin 32, shareE I d (I.x c (batch κ)) i n := by
  rw [sentA_eq, src_back]
  exact sum_turn κ c fun d => shareE I d (I.x c (batch κ)) i n

/-- The block of the output that a device writes. -/
theorem outOf_at (m : (ℓ : Loc nD τ sig) → Buf (Elt Ideal) ℓ) (c : Dev nD) (b : Fin 2) (i : Fin 128) (n : Fin 512) :
    outOf m c (ix3 b i n) = ∑ d : Fin 32, shareE (inp m) d ((inp m).x c b) i n := by
  have key : ∀ v w : Vec Ideal S1x128x512 .bf16, outB v w (ix3 b i n) = (if b.val = 0 then v else w) (ix3 0 i n) := fun v w =>
    (congrArg (outV (F := Ideal) (if b.val = 0 then v else w)) (eq_slot _)).trans (outV_at _ i n)
  refine (key _ _).trans ?_
  fin_cases b
  · exact sentA_back (inp m) .aR c i n
  · exact sentA_back (inp m) .aL c i n

end Cert.Proof

end
-- ==== Proof.Inputs.lean ====
/- What the devices start from, read off their arrays at an index, and off the whole arrays that theirs are blocks of. -/
module

public import proofs.«01_k».proof.Proof.Value
public import Idealize.ShloMosaic.Lib.Layout

@[expose] public section

set_option synthInstance.maxSize 4096

noncomputable section

namespace Cert.Proof

open Cert.KernelIdeal Cert.KernelIdeal.Gen
open Idealize.ShloMosaic Idealize.ShloMosaic.TcCoe

section Arrays

variable {F : FTy → Type} [FloatOps F] (m : (ℓ : Loc nD τ sig) → Buf (Elt F) ℓ) (c : Dev nD)

theorem xOf_eq : xOf m c = m ((c : Thread nD τ).loc main_arg0) := by
  have hz : (fun a => (win0_0.index t0_0) a * main_arg0.ty.shape.size a) = fun _ => 0 := funext fun a => by fin_cases a <;> decide
  exact Memref.read_access_unit_zero (Elt F) main_arg0 hz (fun a => by fin_cases a <;> decide) _

theorem wqOf_eq : wqOf m c = m ((c : Thread nD τ).loc main_arg1) := by
  have hz : (fun a => (win0_1.index t0_0) a * main_arg1.ty.shape.size a) = fun _ => 0 := funext fun a => by fin_cases a <;> decide
  exact Memref.read_access_unit_zero (Elt F) main_arg1 hz (fun a => by fin_cases a <;> decide) _

theorem wkOf_eq : wkOf m c = m ((c : Thread nD τ).loc main_arg2) := by
  have hz : (fun a => (win0_2.index t0_0) a * main_arg2.ty.shape.size a) = fun _ => 0 := funext fun a => by fin_cases a <;> decide
  exact Memref.read_access_unit_zero (Elt F) main_arg2 hz (fun a => by fin_cases a <;> decide) _

theorem wvOf_eq : wvOf m c = m ((c : Thread nD τ).loc main_arg3) := by
  have hz : (fun a => (win0_3.index t0_0) a * main_arg3.ty.shape.size a) = fun _ => 0 := funext fun a => by fin_cases a <;> decide
  exact Memref.read_access_unit_zero (Elt F) main_arg3 hz (fun a => by fin_cases a <;> decide) _

theorem woOf_eq : woOf m c = m ((c : Thread nD τ).loc main_arg4) := by
  have hz : (fun a => (win0_4.index t0_0) a * main_arg4.ty.shape.size a) = fun _ => 0 := funext fun a => by fin_cases a <;> decide
  exact Memref.read_access_unit_zero (Elt F) main_arg4 hz (fun a => by fin_cases a <;> decide) _

/-- A batch of a device's rows. -/
theorem x_at (b : Fin 2) (i : Fin 128) (a : Fin 512) :
    (inp m).x c b (ix3 0 i a) = m ((c : Thread nD τ).loc main_arg0) (ix3 b i a) := by
  show xOf m c ((slotRect b).emb (ix3 0 i a)) = _
  rw [xOf_eq]
  refine congrArg _ (funext fun k => Fin.ext ?_)
  obtain ⟨e0, e1, e2⟩ := slot_emb b (ix3 0 i a)
  match k with
  | ⟨0, _⟩ => exact e0
  | ⟨1, _⟩ => exact e1
  | ⟨2, _⟩ => exact e2

end Arrays

/-! ## Blocks of the whole arrays -/

section Blocks

variable {α : Type} (c : Fin 32)

/-- Two rows of batches to a device. -/
theorem block_batch (v : (⟨3, ![64, 128, 512]⟩ : Shape).Idx → α) (b : Fin 2) (i : Fin 128) (a : Fin 512) :
    Layout.block ⟨3, ![2, 128, 512]⟩ ⟨3, ![64, 128, 512]⟩ 0 32 c v (by decide) (ix3 b i a)
      = v (ix3 ⟨c.val * 2 + b.val, by omega⟩ i a) := by
  refine congrArg v (funext fun k => Fin.ext ?_)
  match k with
  | ⟨0, _⟩ => rfl
  | ⟨1, _⟩ => rfl
  | ⟨2, _⟩ => rfl

/-- 512 columns to a device. -/
theorem block_cols (v : (⟨2, ![512, 16384]⟩ : Shape).Idx → α) (a k : Fin 512) :
    Layout.block ⟨2, ![512, 512]⟩ ⟨2, ![512, 16384]⟩ 1 32 c v (by decide) (ix2 a k)
      = v (ix2 a ⟨c.val * 512 + k.val, by omega⟩) := by
  refine congrArg v (funext fun k => Fin.ext ?_)
  match k with
  | ⟨0, _⟩ => rfl
  | ⟨1, _⟩ => rfl

/-- 512 rows to a device. -/
theorem block_rows (v : (⟨2, ![16384, 512]⟩ : Shape).Idx → α) (k n : Fin 512) :
    Layout.block ⟨2, ![512, 512]⟩ ⟨2, ![16384, 512]⟩ 0 32 c v (by decide) (ix2 k n)
      = v (ix2 ⟨c.val * 512 + k.val, by omega⟩ n) := by
  refine congrArg v (funext fun k => Fin.ext ?_)
  match k with
  | ⟨0, _⟩ => rfl
  | ⟨1, _⟩ => rfl

end Blocks

/-- A sum over all columns, device by device. -/
theorem sum_devices (f : Fin 16384 → EReal) :
    ∑ a : Fin 16384, f a = ∑ d : Fin 32, ∑ k : Fin 512, f ⟨d.val * 512 + k.val, by omega⟩ := by
  rw [← Equiv.sum_comp (finProdFinEquiv (m := 32) (n := 512)) f, Fintype.sum_prod_type]
  refine Finset.sum_congr rfl fun d _ => Finset.sum_congr rfl fun k _ => congrArg f (Fin.ext ?_)
  show k.val + 512 * d.val = d.val * 512 + k.val
  omega

end Cert.Proof

end
-- ==== Proof.Soft.lean ====
/- The arithmetic of the two ways to write a softmax over the extended reals: exponentials of the scores less a real
   number, or of the scores as they are, give the same quotient when the scores are real. The values that are averaged
   may be infinite. -/
module

public import Idealize.ShloMosaic.PureOps.Ideal
public import Idealize.ShloMosaic.PureOps.Contract

@[expose] public section

noncomputable section

namespace Cert.Proof

open Idealize.ShloMosaic

/-- The extended real is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_of_ne {x : EReal} (ht : x ≠ ⊤) (hb : x ≠ ⊥) : IsReal x := ⟨x.toReal, (EReal.coe_toReal ht hb).symm⟩

theorem IsReal.ne_top {x : EReal} : IsReal x → x ≠ ⊤ := by rintro ⟨r, rfl⟩; exact EReal.coe_ne_top r

theorem IsReal.ne_bot {x : EReal} : IsReal x → x ≠ ⊥ := by rintro ⟨r, rfl⟩; exact EReal.coe_ne_bot r

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem isReal_sum {ι : Type} (s : Finset ι) (f : ι → EReal) (h : ∀ i ∈ s, IsReal (f i)) : IsReal (∑ i ∈ s, f i) :=
  Finset.sum_induction f IsReal (fun _ _ => IsReal.add) isReal_zero h

/-- A finite sum of reals, taken in the reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A positive real factor goes through a finite sum, whatever the terms. -/
theorem coe_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.mpr hc) (EReal.coe_ne_top c) _ _

theorem exp_coe (r : ℝ) : Ideal.exp (r : EReal) = (Real.exp r : EReal) := rfl

/-- A common positive real factor of numerator and denominator cancels. -/
theorem div_scale (c d : ℝ) (hc : 0 < c) (hd : 0 < d) (n : EReal) :
    Ideal.div ((c : EReal) * n) ((c * d : ℝ) : EReal) = Ideal.div n (d : EReal) := by
  rw [Ideal.div_coe (mul_pos hc hd).ne', Ideal.div_coe hd.ne', mul_comm (c : EReal) n, mul_assoc, ← EReal.coe_mul]
  congr 2
  field_simp

/-- **The two softmaxes agree.** -/
theorem softmax_eq {ι : Type} [Fintype ι] [Nonempty ι] (s v : ι → EReal) (m a : EReal) (hs : ∀ j, IsReal (s j)) (hm : IsReal m) :
    Ideal.div (0 * a + ∑ j, v j * Ideal.exp (s j - m)) (0 * a + ∑ j, Ideal.exp (s j - m))
      = Ideal.div (∑ j, Ideal.exp (s j) * v j) (∑ j, Ideal.exp (s j)) := by
  choose r hr using hs
  obtain ⟨t, rfl⟩ := hm
  have he : ∀ j, Ideal.exp (s j - t) = (Real.exp (-t) : EReal) * (Real.exp (r j) : EReal) := fun j => by
    rw [hr j, ← EReal.coe_sub, exp_coe, ← EReal.coe_mul, ← Real.exp_add]
    congr 2
    ring
  have h1 : ∑ j, v j * Ideal.exp (s j - t) = (Real.exp (-t) : EReal) * ∑ j, Ideal.exp (s j) * v j := by
    rw [coe_mul_sum _ _ (Real.exp_pos _).le]
    refine Finset.sum_congr rfl fun j _ => ?_
    rw [he j, hr j, exp_coe, mul_comm (v j), mul_assoc]
  have h2 : ∑ j, Ideal.exp (s j - t) = ((Real.exp (-t) * ∑ j, Real.exp (r j) : ℝ) : EReal) := by
    rw [EReal.coe_mul, coe_sum, coe_mul_sum _ _ (Real.exp_pos _).le]
    exact Finset.sum_congr rfl fun j _ => he j
  have h3 : ∑ j, Ideal.exp (s j) = ((∑ j, Real.exp (r j) : ℝ) : EReal) := by
    rw [coe_sum]
    exact Finset.sum_congr rfl fun j _ => by rw [hr j, exp_coe]
  rw [h1, h2, h3, zero_mul, zero_add, zero_add]
  exact div_scale _ _ (Real.exp_pos _) (Finset.sum_pos (fun j _ => Real.exp_pos _) Finset.univ_nonempty) _

/-- A fold of maxima over reals, from a start below ⊤, is real as soon as there is a term. -/
theorem isReal_foldl_max {κ : Type} (f : κ → EReal) (hf : ∀ n, IsReal (f n)) (l : List κ) (i : EReal) (hi : i ≠ ⊤)
    (hl : l ≠ [] ∨ i ≠ ⊥) : IsReal (l.foldl (fun r n => max r (f n)) i) := by
  induction l generalizing i with
  | nil => exact isReal_of_ne hi (hl.resolve_left fun h => h rfl)
  | cons n l ih =>
    refine ih _ ?_ (.inr ?_)
    · exact ((max_lt hi.lt_top (hf n).ne_top.lt_top)).ne
    · exact (lt_of_lt_of_le (hf n).ne_bot.bot_lt (le_max_right _ _)).ne'

/-- The host's maximum over axes of real numbers is real where an element is reduced to the place. -/
theorem isReal_reduce_max {s t u : Shape} {axes : List (Fin s.rank)} (x : s.Idx → EReal) (hx : ∀ i, IsReal (x i))
    (init : u.Idx → EReal) (hinit : ∀ i, init i ≠ ⊤) (h : s.ReducesTo axes t) (hu : 0 < u.numel) (i : s.Idx) (j : t.Idx)
    (hij : h.drop i = j) : IsReal (Host.reduce max x init h hu j) := by
  refine isReal_foldl_max (fun n => x (s.rowMajor.symm n)) (fun n => hx _) _ _ (hinit _) (.inl ?_)
  refine List.ne_nil_of_mem (a := s.rowMajor i) (List.mem_filter.mpr ⟨List.mem_finRange _, ?_⟩)
  rw [Equiv.symm_apply_apply]
  exact decide_eq_true hij

end Cert.Proof

end
-- ==== Proof.Ref.lean ====
/- The reference's result in its own stages: the three projections, the scores of every head, their greatest over a
   row, the exponentials, the quotient, and the product with the output weights. Each stage read at an index. -/
module

public import proofs.«01_k».proof.Proof.Gen.ReferenceIdeal.Run
public import Idealize.ShloMosaic.PureOps.Ideal
public import Idealize.ShloMosaic.Lib.Pointwise
public import proofs.«01_k».proof.Proof.Soft

@[expose] public section

noncomputable section

namespace Cert.Proof.Reference

open Cert.ReferenceIdeal Cert.ReferenceIdeal.Gen
open Idealize.ShloMosaic Idealize.ShloMosaic.TcCoe Idealize.SL.Sem

variable {F : FTy → Type} [FloatOps F]

/-- A projection of all rows onto all heads. -/
def projR (x : FVec F S64x128x512 .bf16) (w : FVec F S512x16384 .bf16) : FVec F S64x128x256x64 .f32 :=
  shapeCast S64x128x256x64 (Host.dotGeneral dot_S64x128x512_S512x16384_S64x128x16384_2_0_01_1_n_n none
    (extf .f32 x bitsLt_bf16_f32) (extf .f32 w bitsLt_bf16_f32)) shapeCasts_S64x128x16384_S64x128x256x64

/-- The scaled scores of every head. -/
def scoreR (q k : FVec F S64x128x256x64 .f32) : FVec F S64x256x128x128 .f32 :=
  mulf (Host.dotGeneral dot_S64x128x256x64_S64x128x256x64_S64x256x128x128_3_3_1_1_02_02 none q k)
    (broadcastInDim S64x256x128x128 ![] bcast_S_S64x256x128x128 (constant S_ .f32 0x3E000000#32))

/-- The value the running maximum starts at. -/
def lowR : FVec F S64x256x128x1 .f32 :=
  broadcastInDim S64x256x128x1 ![] bcast_S_S64x256x128x1 (constant S_ .f32 0xFF800000#32)

/-- The greatest score of every row. -/
def maxR (s : FVec F S64x256x128x128 .f32) : FVec F S64x256x128x1 .f32 :=
  maximumf lowR (broadcastInDim S64x256x128x1 ![0, 1, 2] bcast_S64x256x128_S64x256x128x1_0_1_2
    (Host.reduce FloatOps.maximumf s (constant S_ .f32 0xFF800000#32) reducesTo_S64x256x128x128_S64x256x128_d3 h_S_))

/-- The factor the running sums are scaled by when the maximum moves. -/
def alphaR (m : FVec F S64x256x128x1 .f32) : FVec F S64x256x128x1 .f32 := Host.exp (subf lowR m)

/-- The exponentials of the scores over their greatest. -/
def expR (s : FVec F S64x256x128x128 .f32) (m : FVec F S64x256x128x1 .f32) : FVec F S64x256x128x128 .f32 :=
  Host.exp (subf s (broadcastInDim S64x256x128x128 ![0, 1, 2, 3] bcast_S64x256x128x1_S64x256x128x128_0_1_2_3 m))

/-- The weighted sum of the values. -/
def numR (v : FVec F S64x128x256x64 .f32) (p : FVec F S64x256x128x128 .f32) (a : FVec F S64x256x128x1 .f32) :
    FVec F S64x128x256x64 .f32 :=
  addf (mulf (broadcastInDim S64x128x256x64 ![] bcast_S_S64x128x256x64 (constant S_ .f32 0x00000000#32))
      (broadcastInDim S64x128x256x64 ![0, 1, 2, 3] bcast_S64x128x256x1_S64x128x256x64_0_1_2_3
        (transpose S64x128x256x1 [0, 2, 1, 3] a transposes_S64x256x128x1_S64x128x256x1_0_2_1_3)))
    (transpose S64x128x256x64 [0, 3, 1, 2]
      (Host.dotGeneral dot_S64x128x256x64_S64x256x128x128_S64x256x64x128_1_3_3_2_02_01 none v p)
      transposes_S64x256x64x128_S64x128x256x64_0_3_1_2)

/-- The sum of the exponentials of every row. -/
def denR (p : FVec F S64x256x128x128 .f32) (a : FVec F S64x256x128x1 .f32) : FVec F S64x256x128x1 .f32 :=
  addf (mulf (broadcastInDim S64x256x128x1 ![] bcast_S_S64x256x128x1 (constant S_ .f32 0x00000000#32)) a)
    (broadcastInDim S64x256x128x1 ![0, 1, 2] bcast_S64x256x128_S64x256x128x1_0_1_2
      (Host.reduceAdd p (constant S_ .f32 0x00000000#32) reducesTo_S64x256x128x128_S64x256x128_d3 h_S_))

/-- The heads' outputs. -/
def quotR (n : FVec F S64x128x256x64 .f32) (d : FVec F S64x256x128x1 .f32) : FVec F S64x128x256x64 .f32 :=
  Host.divf n (broadcastInDim S64x128x256x64 ![0, 1, 2, 3] bcast_S64x128x256x1_S64x128x256x64_0_1_2_3
    (transpose S64x128x256x1 [0, 2, 1, 3] d transposes_S64x256x128x1_S64x128x256x1_0_2_1_3))

/-- The heads' outputs from the projections. -/
def headsR (q k v : FVec F S64x128x256x64 .f32) : FVec F S64x128x256x64 .f32 :=
  quotR (numR v (expR (scoreR q k) (maxR (scoreR q k))) (alphaR (maxR (scoreR q k))))
    (denR (expR (scoreR q k) (maxR (scoreR q k))) (alphaR (maxR (scoreR q k))))

/-- The heads side by side against the output weights. -/
def mixR (o : FVec F S64x128x256x64 .f32) (w : FVec F S16384x512 .bf16) : FVec F S64x128x512 .f32 :=
  Host.dotGeneral dot_S64x128x16384_S16384x512_S64x128x512_2_0_01_1_n_n none
    (shapeCast S64x128x16384 o shapeCasts_S64x128x256x64_S64x128x16384) (extf .f32 w bitsLt_bf16_f32)

set_option maxRecDepth 8192 in
/-- The reference's result is these stages in order. -/
theorem result_eq (m : (ℓ : Loc nD τ sig) → Buf (Elt F) ℓ) (c : Dev nD) :
    Value.res_out0 m c = mixR (headsR
      (projR (m ((c.tc : Thread nD τ).loc main_arg0)) (m ((c.tc : Thread nD τ).loc main_arg1)))
      (projR (m ((c.tc : Thread nD τ).loc main_arg0)) (m ((c.tc : Thread nD τ).loc main_arg2)))
      (projR (m ((c.tc : Thread nD τ).loc main_arg0)) (m ((c.tc : Thread nD τ).loc main_arg3))))
      (m ((c.tc : Thread nD τ).loc main_arg4)) := by
  unfold Value.res_out0 Value.res_main_v39
  rfl

/-! ## The stages at an index -/

theorem projR_at (x : FVec Ideal S64x128x512 .bf16) (w : FVec Ideal S512x16384 .bf16) (b : Fin 64) (i : Fin 128)
    (h : Fin 256) (e : Fin 64) :
    projR (F := Ideal) x w (ix4 b i h e) = ∑ a : Fin 512, x (ix3 b i a) * w (ix2 a ⟨64 * h.val + e.val, by omega⟩) := by
  have hc : (⟨64 * h.val + e.val, by omega⟩ : Fin 16384) = ⟨h.val * 64 + e.val, by omega⟩ :=
    Fin.ext (congrArg (· + e.val) (Nat.mul_comm _ _))
  rw [hc]
  pointwise [projR]

theorem scoreR_at (q k : FVec Ideal S64x128x256x64 .f32) (b : Fin 64) (h : Fin 256) (i j : Fin 128) :
    scoreR (F := Ideal) q k (ix4 b h i j)
      = (∑ e : Fin 64, q (ix4 b i h e) * k (ix4 b j h e)) * Ideal.ofBits .f32 0x3E000000#32 := by
  pointwise [scoreR]

theorem bits_low : Ideal.ofBits .f32 0xFF800000#32 = ⊥ := by simp [Ideal.ofBits, Ideal.ieee]

theorem maxR_from (r : FVec Ideal S64x256x128 .f32) (b : Fin 64) (h : Fin 256) (i : Fin 128) :
    maximumf lowR (broadcastInDim S64x256x128x1 ![0, 1, 2] bcast_S64x256x128_S64x256x128x1_0_1_2 r) (ix4 b h i 0)
      = max (Ideal.ofBits .f32 0xFF800000#32) (r (ix3 b h i)) := by
  pointwise [lowR]

theorem drop_at (b : Fin 64) (h : Fin 256) (i : Fin 128) :
    reducesTo_S64x256x128x128_S64x256x128_d3.drop (ix4 b h i 0) = ix3 b h i := by
  funext a
  match a with
  | ⟨0, _⟩ => rfl
  | ⟨1, _⟩ => rfl
  | ⟨2, _⟩ => rfl

/-- The greatest of real scores is real. -/
theorem maxR_real (s : FVec Ideal S64x256x128x128 .f32) (hs : ∀ i, IsReal (s i)) (b : Fin 64) (h : Fin 256) (i : Fin 128) :
    IsReal (maxR (F := Ideal) s (ix4 b h i 0)) := by
  unfold maxR
  rw [maxR_from, bits_low, max_eq_right bot_le]
  exact isReal_reduce_max s hs _ (fun _ => by show Ideal.ofBits .f32 0xFF800000#32 ≠ ⊤; rw [bits_low]; exact bot_ne_top) _ _
    (ix4 b h i 0) (ix3 b h i) (drop_at b h i)

/-- **A head's output is the softmax of its scores over its values**, the scores being real. -/
theorem headsR_at (q k v : FVec Ideal S64x128x256x64 .f32) (hs : ∀ i, IsReal (scoreR (F := Ideal) q k i)) (b : Fin 64)
    (h : Fin 256) (i : Fin 128) (e : Fin 64) :
    headsR (F := Ideal) q k v (ix4 b i h e)
      = Ideal.div (∑ j : Fin 128, Ideal.exp (scoreR (F := Ideal) q k (ix4 b h i j)) * v (ix4 b j h e))
          (∑ j : Fin 128, Ideal.exp (scoreR (F := Ideal) q k (ix4 b h i j))) := by
  have key := softmax_eq (fun j : Fin 128 => scoreR (F := Ideal) q k (ix4 b h i j)) (fun j => v (ix4 b j h e))
    (maxR (F := Ideal) (scoreR q k) (ix4 b h i 0)) (alphaR (F := Ideal) (maxR (scoreR q k)) (ix4 b h i 0))
    (fun j => hs _) (maxR_real _ hs b h i)
  refine Eq.trans ?_ key
  pointwise [headsR, quotR, numR, denR, expR]

theorem mixR_at (o : FVec Ideal S64x128x256x64 .f32) (w : FVec Ideal S16384x512 .bf16) (b : Fin 64) (i : Fin 128) (n : Fin 512) :
    mixR (F := Ideal) o w (ix3 b i n)
      = ∑ a : Fin 16384, o (ix4 b i ⟨a.val / 64, by omega⟩ ⟨a.val % 64, by omega⟩) * w (ix2 a n) := by
  pointwise [mixR]

end Cert.Proof.Reference

end
-- ==== Proof.Algebra.lean ====
/- The kernel and the reference compute the same function over the extended reals, for finite `x`, `Wq` and `Wk`. -/
module

public import proofs.«01_k».proof.Defs
public import proofs.«01_k».proof.Proof.Frames
public import proofs.«01_k».proof.Proof.Inputs
public import proofs.«01_k».proof.Proof.Ref

@[expose] public section

set_option synthInstance.maxSize 4096

noncomputable section

namespace Cert.Proof

open Idealize.ShloMosaic Idealize.ShloMosaic.TcCoe Idealize.SL.Sem

/-! ## The precondition -/

theorem finite_facts : Cert.Pre_finite_KernelIdeal.Facts := ⟨by decide, by decide⟩

theorem finite_facts' : Cert.Pre_finite_ReferenceIdeal.Facts := by constructor <;> decide

theorem bits_inf : Ideal.ofBits .bf16 0x7F80#16 = ⊤ := by simp [Ideal.ofBits, Ideal.ieee]

/-- What is below ⊤ in absolute value is real. -/
theorem real_of_below (x : EReal) (h : Ideal.cmp .olt (max x (-x)) (Ideal.ofBits .bf16 0x7F80#16) = 1#1) : IsReal x := by
  rw [bits_inf] at h
  have hlt : max x (-x) < ⊤ := by
    by_contra hn
    simp [Ideal.cmp, hn] at h
  refine isReal_of_ne (lt_of_le_of_lt (le_max_left _ _) hlt).ne fun hb => ?_
  rw [hb] at hlt
  simp at hlt

section Finite

local instance : Cert.Pre_finite_KernelIdeal.Facts := finite_facts

variable (m : (ℓ : Loc Cert.KernelIdeal.nD Cert.KernelIdeal.τ Cert.KernelIdeal.sig) → Buf (Elt Ideal) ℓ)
  (h : Cert.Pre_KernelIdeal_finite_KernelIdeal m) (c : Dev Cert.KernelIdeal.nD)

include h

theorem x_real (i : Cert.KernelIdeal.S2x128x512.Idx) :
    IsReal (m ((c : Thread Cert.KernelIdeal.nD Cert.KernelIdeal.τ).loc Cert.KernelIdeal.main_arg0) i) :=
  real_of_below _ (congrFun (h c).1 i)

theorem wq_real (i : Cert.KernelIdeal.S512x512.Idx) :
    IsReal (m ((c : Thread Cert.KernelIdeal.nD Cert.KernelIdeal.τ).loc Cert.KernelIdeal.main_arg1) i) :=
  real_of_below _ (congrFun (h c).2.1 i)

theorem wk_real (i : Cert.KernelIdeal.S512x512.Idx) :
    IsReal (m ((c : Thread Cert.KernelIdeal.nD Cert.KernelIdeal.τ).loc Cert.KernelIdeal.main_arg2) i) :=
  real_of_below _ (congrFun (h c).2.2 i)

end Finite

/-! ## The reference, head by head -/

section Whole

variable (X : FVec Ideal ⟨3, ![64, 128, 512]⟩ .bf16) (Wq Wk Wv : FVec Ideal ⟨2, ![512, 16384]⟩ .bf16)
  (Wo : FVec Ideal ⟨2, ![16384, 512]⟩ .bf16)

/-- The queries, keys or values of one of all heads. -/
def wholeE (W : FVec Ideal ⟨2, ![512, 16384]⟩ .bf16) (B : Fin 64) (H : Fin 256) (i : Fin 128) (e : Fin 64) : EReal :=
  ∑ a : Fin 512, X (ix3 B i a) * W (ix2 a ⟨64 * H.val + e.val, by omega⟩)

theorem projR_real (W : FVec Ideal ⟨2, ![512, 16384]⟩ .bf16) (hX : ∀ i, IsReal (X i)) (hW : ∀ i, IsReal (W i))
    (j : Cert.ReferenceIdeal.S64x128x256x64.Idx) : IsReal (Reference.projR (F := Ideal) X W j) := by
  refine (congrArg (fun k => IsReal (Reference.projR (F := Ideal) X W k)) (ValueIdx.eq_ix4 j)).mpr ?_
  refine (congrArg IsReal (Reference.projR_at X W (j 0) (j 1) (j 2) (j 3))).mpr ?_
  exact isReal_sum _ _ fun a _ => (hX _).mul (hW _)

theorem bits_scale : IsReal (Ideal.ofBits .f32 0x3E000000#32) := by
  simp only [Ideal.ofBits, Ideal.ieee]
  exact ⟨_, rfl⟩

theorem scoreR_real (hX : ∀ i, IsReal (X i)) (hq : ∀ i, IsReal (Wq i)) (hk : ∀ i, IsReal (Wk i))
    (j : Cert.ReferenceIdeal.S64x256x128x128.Idx) :
    IsReal (Reference.scoreR (F := Ideal) (Reference.projR X Wq) (Reference.projR X Wk) j) := by
  refine (congrArg (fun k => IsReal (Reference.scoreR (F := Ideal) (Reference.projR X Wq) (Reference.projR X Wk) k))
    (ValueIdx.eq_ix4 j)).mpr ?_
  refine (congrArg IsReal (Reference.scoreR_at _ _ (j 0) (j 1) (j 2) (j 3))).mpr ?_
  exact (isReal_sum _ _ fun a _ => (projR_real X Wq hX hq _).mul (projR_real X Wk hX hk _)).mul bits_scale

theorem headsR_whole (hX : ∀ i, IsReal (X i)) (hq : ∀ i, IsReal (Wq i)) (hk : ∀ i, IsReal (Wk i)) (B : Fin 64) (H : Fin 256)
    (i : Fin 128) (e : Fin 64) :
    Reference.headsR (F := Ideal) (Reference.projR X Wq) (Reference.projR X Wk) (Reference.projR X Wv) (ix4 B i H e)
      = headE (wholeE X Wq B H) (wholeE X Wk B H) (wholeE X Wv B H) i e := by
  rw [Reference.headsR_at _ _ _ (scoreR_real X Wq Wk hX hq hk)]
  simp only [Reference.scoreR_at, Reference.projR_at]
  rfl

/-- The reference's result at an index. -/
theorem mixR_whole (hX : ∀ i, IsReal (X i)) (hq : ∀ i, IsReal (Wq i)) (hk : ∀ i, IsReal (Wk i)) (B : Fin 64) (i : Fin 128)
    (n : Fin 512) :
    Reference.mixR (F := Ideal) (Reference.headsR (Reference.projR X Wq) (Reference.projR X Wk) (Reference.projR X Wv)) Wo
        (ix3 B i n)
      = ∑ a : Fin 16384, headE (wholeE X Wq B ⟨a.val / 64, by omega⟩) (wholeE X Wk B ⟨a.val / 64, by omega⟩)
          (wholeE X Wv B ⟨a.val / 64, by omega⟩) i ⟨a.val % 64, by omega⟩ * Wo (ix2 a n) := by
  rw [Reference.mixR_at]
  exact Finset.sum_congr rfl fun a _ => by rw [headsR_whole X Wq Wk Wv hX hq hk]

/-! ## The devices' parts -/

/-- A device's head is one of the whole's heads. -/
theorem partE_whole (W : FVec Ideal ⟨2, ![512, 16384]⟩ .bf16) (x : Vec Ideal Cert.KernelIdeal.S1x128x512 .bf16)
    (w : Vec Ideal Cert.KernelIdeal.S512x512 .bf16) (B : Fin 64) (d : Fin 32)
    (hx : ∀ i a, x (ix3 0 i a) = X (ix3 B i a))
    (hw : ∀ a k : Fin 512, w (ix2 a k) = W (ix2 a ⟨d.val * 512 + k.val, by omega⟩)) (h : Fin 8) :
    partE x w h = wholeE X W B ⟨8 * d.val + h.val, by omega⟩ := by
  funext i e
  refine Finset.sum_congr rfl fun a _ => ?_
  rw [hx, hw]
  refine congrArg (fun k => X (ix3 B i a) * W (ix2 a k)) (Fin.ext ?_)
  show d.val * 512 + (64 * h.val + e.val) = 64 * (8 * d.val + h.val) + e.val
  omega

/-- The devices' shares of a batch's rows make up the reference's result. -/
theorem shares_whole (I : Inp Ideal) (x : Vec Ideal Cert.KernelIdeal.S1x128x512 .bf16) (B : Fin 64)
    (hX : ∀ i, IsReal (X i)) (hq : ∀ i, IsReal (Wq i)) (hk : ∀ i, IsReal (Wk i))
    (ex : ∀ i a, x (ix3 0 i a) = X (ix3 B i a))
    (eq : ∀ (d : Fin 32) (a k : Fin 512), I.wq d (ix2 a k) = Wq (ix2 a ⟨d.val * 512 + k.val, by omega⟩))
    (ek : ∀ (d : Fin 32) (a k : Fin 512), I.wk d (ix2 a k) = Wk (ix2 a ⟨d.val * 512 + k.val, by omega⟩))
    (ev : ∀ (d : Fin 32) (a k : Fin 512), I.wv d (ix2 a k) = Wv (ix2 a ⟨d.val * 512 + k.val, by omega⟩))
    (eo : ∀ (d : Fin 32) (k n : Fin 512), I.wo d (ix2 k n) = Wo (ix2 ⟨d.val * 512 + k.val, by omega⟩ n))
    (i : Fin 128) (n : Fin 512) :
    ∑ d : Fin 32, shareE I d x i n
      = Reference.mixR (F := Ideal) (Reference.headsR (Reference.projR X Wq) (Reference.projR X Wk) (Reference.projR X Wv)) Wo
          (ix3 B i n) := by
  rw [mixR_whole X Wq Wk Wv Wo hX hq hk, sum_devices]
  refine Finset.sum_congr rfl fun d _ => Finset.sum_congr rfl fun k _ => ?_
  rw [eo, partE_whole X Wq x (I.wq d) B d ex (eq d), partE_whole X Wk x (I.wk d) B d ex (ek d),
    partE_whole X Wv x (I.wv d) B d ex (ev d)]
  have hH : (⟨8 * d.val + k.val / 64, by omega⟩ : Fin 256) = ⟨(d.val * 512 + k.val) / 64, by omega⟩ :=
    Fin.ext (show 8 * d.val + k.val / 64 = (d.val * 512 + k.val) / 64 by omega)
  have he : (⟨k.val % 64, by omega⟩ : Fin 64) = ⟨(d.val * 512 + k.val) % 64, by omega⟩ :=
    Fin.ext (show k.val % 64 = (d.val * 512 + k.val) % 64 by omega)
  rw [hH, he]

end Whole

/-! ## Real blocks -/

theorem batch_real (v : (⟨3, ![64, 128, 512]⟩ : Shape).Idx → EReal)
    (h : ∀ (c : Fin 32) i, IsReal (Layout.block ⟨3, ![2, 128, 512]⟩ ⟨3, ![64, 128, 512]⟩ 0 32 c v (by decide) i))
    (i : (⟨3, ![64, 128, 512]⟩ : Shape).Idx) : IsReal (v i) := by
  have h0 : (i 0).val < 64 := (i 0).isLt
  have hr := h ⟨(i 0).val / 2, by omega⟩ (ix3 ⟨(i 0).val % 2, by omega⟩ (i 1) (i 2))
  refine (congrArg IsReal ((block_batch _ _ _ _ _).trans (congrArg v ?_))).mp hr
  refine Eq.trans ?_ (ValueIdx.eq_ix3 i).symm
  refine congrArg (fun b => ix3 b (i 1) (i 2)) (Fin.ext ?_)
  show (i 0).val / 2 * 2 + (i 0).val % 2 = (i 0).val
  omega

theorem cols_real (v : (⟨2, ![512, 16384]⟩ : Shape).Idx → EReal)
    (h : ∀ (c : Fin 32) i, IsReal (Layout.block ⟨2, ![512, 512]⟩ ⟨2, ![512, 16384]⟩ 1 32 c v (by decide) i))
    (i : (⟨2, ![512, 16384]⟩ : Shape).Idx) : IsReal (v i) := by
  have h1 : (i 1).val < 16384 := (i 1).isLt
  have hr := h ⟨(i 1).val / 512, by omega⟩ (ix2 (i 0) ⟨(i 1).val % 512, by omega⟩)
  refine (congrArg IsReal ((block_cols _ _ _ _).trans (congrArg v ?_))).mp hr
  refine Eq.trans ?_ (ValueIdx.eq_ix2 i).symm
  refine congrArg (fun b => ix2 (i 0) b) (Fin.ext ?_)
  show (i 1).val / 512 * 512 + (i 1).val % 512 = (i 1).val
  omega

/-! ## The claim -/

section Claims

local instance : Cert.Pre_finite_KernelIdeal.Facts := finite_facts

/-- A device's block of the output is its block of the reference's result. -/
theorem out_block (m : (ℓ : Loc Cert.KernelIdeal.nD Cert.KernelIdeal.τ Cert.KernelIdeal.sig) → Buf (Elt Ideal) ℓ)
    (hpre : Cert.Pre_KernelIdeal_finite_KernelIdeal m) (X : FVec Ideal ⟨3, ![64, 128, 512]⟩ .bf16)
    (Wq Wk Wv : FVec Ideal ⟨2, ![512, 16384]⟩ .bf16) (Wo : FVec Ideal ⟨2, ![16384, 512]⟩ .bf16)
    (hargs : ∀ c : Dev Cert.KernelIdeal.nD,
      m ((c : Thread Cert.KernelIdeal.nD Cert.KernelIdeal.τ).loc Cert.KernelIdeal.main_arg0)
          = Layout.block ⟨3, ![2, 128, 512]⟩ ⟨3, ![64, 128, 512]⟩ 0 32 c X (by decide)
        ∧ m ((c : Thread Cert.KernelIdeal.nD Cert.KernelIdeal.τ).loc Cert.KernelIdeal.main_arg1)
          = Layout.block ⟨2, ![512, 512]⟩ ⟨2, ![512, 16384]⟩ 1 32 c Wq (by decide)
        ∧ m ((c : Thread Cert.KernelIdeal.nD Cert.KernelIdeal.τ).loc Cert.KernelIdeal.main_arg2)
          = Layout.block ⟨2, ![512, 512]⟩ ⟨2, ![512, 16384]⟩ 1 32 c Wk (by decide)
        ∧ m ((c : Thread Cert.KernelIdeal.nD Cert.KernelIdeal.τ).loc Cert.KernelIdeal.main_arg3)
          = Layout.block ⟨2, ![512, 512]⟩ ⟨2, ![512, 16384]⟩ 1 32 c Wv (by decide)
        ∧ m ((c : Thread Cert.KernelIdeal.nD Cert.KernelIdeal.τ).loc Cert.KernelIdeal.main_arg4)
          = Layout.block ⟨2, ![512, 512]⟩ ⟨2, ![16384, 512]⟩ 0 32 c Wo (by decide)) (c : Dev Cert.KernelIdeal.nD) :
    outOf m c = Layout.block ⟨3, ![2, 128, 512]⟩ ⟨3, ![64, 128, 512]⟩ 0 32 c
      (Reference.mixR (F := Ideal) (Reference.headsR (Reference.projR X Wq) (Reference.projR X Wk) (Reference.projR X Wv)) Wo)
      (by decide) := by
  have hX : ∀ i, IsReal (X i) := batch_real X fun c i => by rw [← (hargs c).1]; exact x_real m hpre c i
  have hq : ∀ i, IsReal (Wq i) := cols_real Wq fun c i => by rw [← (hargs c).2.1]; exact wq_real m hpre c i
  have hk : ∀ i, IsReal (Wk i) := cols_real Wk fun c i => by rw [← (hargs c).2.2.1]; exact wk_real m hpre c i
  funext j
  refine (congrArg (outOf m c) (ValueIdx.eq_ix3 j)).trans (Eq.trans ?_
    (congrArg (Layout.block _ _ 0 32 c _ _) (ValueIdx.eq_ix3 j)).symm)
  refine (outOf_at m c (j 0) (j 1) (j 2)).trans (Eq.trans ?_ (block_batch c _ (j 0) (j 1) (j 2)).symm)
  refine shares_whole X Wq Wk Wv Wo (inp m) ((inp m).x c (j 0)) _ hX hq hk (fun i a => ?_) (fun d a k => ?_) (fun d a k => ?_)
    (fun d a k => ?_) (fun d k n => ?_) _ _
  · refine (x_at m c (j 0) i a).trans ?_
    rw [(hargs c).1]
    exact block_batch c X (j 0) i a
  · refine (congrFun ((wqOf_eq m d).trans (hargs d).2.1) _).trans (block_cols d Wq a k)
  · refine (congrFun ((wkOf_eq m d).trans (hargs d).2.2.1) _).trans (block_cols d Wk a k)
  · refine (congrFun ((wvOf_eq m d).trans (hargs d).2.2.2.1) _).trans (block_cols d Wv a k)
  · refine (congrFun ((woOf_eq m d).trans (hargs d).2.2.2.2) _).trans (block_rows d Wo k n)

/-- **The kernel computes the reference's function over the extended reals**, for finite `x`, `Wq` and `Wk`. -/
theorem algebraic : Cert.algebraic_KernelIdeal_ReferenceIdeal_pre_finite_KernelIdeal := by
  intro m g m' g' hpre hargs
  refine ⟨Cert.ReferenceIdeal.Value.res_out0 m' 0, ?_, ?_⟩
  · refine (θ_run _ _ _).mono (fun r h c => ?_) (run_left m g)
    have hb := out_block m hpre _ _ _ _ _ hargs c
    refine ⟨((h.1 c).1.trans hb).trans ?_, (h.1 c).2⟩
    rw [Reference.result_eq m' 0]
  · exact (θ_run _ _ _).mono (fun r h => h 0) (Cert.ReferenceIdeal.Value.run m' g')

end Claims

/-! ## The frames that state the precondition, which they do not use -/

theorem frame_kernelIdeal_finite :
    Cert.quiescent_KernelIdeal_pre_finite_KernelIdeal (hPre_finite_KernelIdeal := finite_facts) :=
  fun m g _ => frame_kernelIdeal m g trivial

theorem frame_reference_finite :
    Cert.quiescent_ReferenceIdeal_pre_finite_ReferenceIdeal (hPre_finite_ReferenceIdeal := finite_facts') :=
  fun m g _ => frame_reference m g trivial

end Cert.Proof

end
-- ==== Proof.lean ====
/- The claims of the ring attention kernel. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebra

@[expose] public section

noncomputable section

theorem Cert.Proof.claim : Cert.Claim :=
  ⟨Cert.Kernel.Gen.facts, Cert.KernelIdeal.Gen.facts, Cert.ReferenceIdeal.Gen.facts, Cert.Proof.finite_facts,
    Cert.Proof.finite_facts', Cert.Proof.frame_kernel, Cert.Proof.frame_kernelIdeal, Cert.Proof.frame_kernelIdeal_finite,
    Cert.Proof.frame_reference, Cert.Proof.frame_reference_finite, trivial, Cert.Proof.algebraic⟩

end
